-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S1 : Shape := ⟨1, ![1]⟩
abbrev S2x256x2048 : Shape := ⟨3, ![2, 256, 2048]⟩
abbrev S2x256x4096 : Shape := ⟨3, ![2, 256, 4096]⟩
abbrev S12 : Shape := ⟨1, ![12]⟩
abbrev S2 : Shape := ⟨1, ![2]⟩
abbrev S_ : Shape := ⟨0, ![]⟩
abbrev S256x4096 : Shape := ⟨2, ![256, 4096]⟩
abbrev S1x256x2048 : Shape := ⟨3, ![1, 256, 2048]⟩
abbrev S256x2048 : Shape := ⟨2, ![256, 2048]⟩
abbrev S1x256x4096 : Shape := ⟨3, ![1, 256, 4096]⟩

abbrev nBuf : Space → Nat
  | .hbm => 5
  | .vmem => 9
  | .smem => 2
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S1024x4096, .f32⟩
  | .local _ .vmem, ⟨1, _⟩ => ⟨S1024x4096, .fp8e4m3⟩
  | .local _ .vmem, ⟨2, _⟩ => ⟨S4096x2048, .fp8e4m3⟩
  | .local _ .vmem, ⟨3, _⟩ => ⟨S2x256x2048, .f32⟩
  | .local _ .vmem, ⟨4, _⟩ => ⟨S1024x4096, .fp8e4m3⟩
  | .local _ .vmem, ⟨5, _⟩ => ⟨S2x256x4096, .fp8e4m3⟩
  | .local _ .vmem, ⟨6, _⟩ => ⟨S1024x4096, .fp8e4m3⟩
  | .local _ .vmem, ⟨7, _⟩ => ⟨S2x256x4096, .fp8e4m3⟩
  | .local _ .vmem, ⟨8, _⟩ => ⟨S2x256x2048, .f32⟩
  | .local _ .smem, ⟨0, _⟩ => ⟨S1, .f32⟩
  | .local _ .smem, ⟨1, _⟩ => ⟨S1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26 : BitVec 32 := 1#32
  let v39 : BitVec 32 := Scalar.muli v24 c1_i32_26
  let v40 : BitVec 32 := Scalar.addi c0_i32_27 v39
  v40.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_34 : BitVec 32 := 1#32
  let v47 : BitVec 32 := Scalar.muli v13 c1_i32_34
  let v48 : BitVec 32 := Scalar.addi c0_i32_35 v47
  v48.toNat
def k0_dev5 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_45 : BitVec 32 := 1#32
  let v61 : BitVec 32 := Scalar.muli v24 c1_i32_45
  let v62 : BitVec 32 := Scalar.addi c0_i32_46 v61
  v62.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_51 : BitVec 32 := 1#32
  let v69 : BitVec 32 := Scalar.muli v13 c1_i32_51
  let v70 : BitVec 32 := Scalar.addi c0_i32_52 v69
  v70.toNat
def k0_dev7 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_62 : BitVec 32 := 1#32
  let v83 : BitVec 32 := Scalar.muli v24 c1_i32_62
  let v84 : BitVec 32 := Scalar.addi c0_i32_63 v83
  v84.toNat
def k0_dev8 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_68 : BitVec 32 := 1#32
  let v91 : BitVec 32 := Scalar.muli v13 c1_i32_68
  let v92 : BitVec 32 := Scalar.addi c0_i32_69 v91
  v92.toNat
def k0_dev9 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_78 : BitVec 32 := 1#32
  let v105 : BitVec 32 := Scalar.muli v24 c1_i32_78
  let v106 : BitVec 32 := Scalar.addi c0_i32_79 v105
  v106.toNat
def k0_dev10 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_84 : BitVec 32 := 1#32
  let v113 : BitVec 32 := Scalar.muli v13 c1_i32_84
  let v114 : BitVec 32 := Scalar.addi c0_i32_85 v113
  v114.toNat
def k0_off1 (d0 : Dev nD) (c0_i32_338 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_337 : BitVec 32 := 1024#32
  let v377 : BitVec 32 := Scalar.muli v2 c1024_i32_337
  let v378 : BitVec 32 := Scalar.addi v377 c0_i32_338
  let c0_i32_349 : BitVec 32 := 0#32
  ![v378.toNat, 0]
def k0_dev11 (d0 : Dev nD) : Nat :=
  let c0_i32_426 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_425 : BitVec 32 := 1#32
  let v464 : BitVec 32 := Scalar.muli v24 c1_i32_425
  let v465 : BitVec 32 := Scalar.addi c0_i32_426 v464
  v465.toNat
def k0_off2 (d0 : Dev nD) (c0_i32_432 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_431 : BitVec 32 := 1024#32
  let v473 : BitVec 32 := Scalar.muli v13 c1024_i32_431
  let v474 : BitVec 32 := Scalar.addi v473 c0_i32_432
  let c0_i32_449 : BitVec 32 := 0#32
  ![v474.toNat, 0]
def k0_off3 (d0 : Dev nD) (c1_i32_6 : BitVec 32) (c0_i32_453 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_452 : BitVec 32 := 1024#32
  let v495 : BitVec 32 := Scalar.muli v24 c1024_i32_452
  let v496 : BitVec 32 := Scalar.addi v495 c0_i32_453
  let c0_i32_470 : BitVec 32 := 0#32
  ![v496.toNat, 0]
def k0_off3_at (r : Fin 6) : BitVec 32 × BitVec 32 :=
  if r.val < 3 then
    if r.val < 1 then
      (1#32, 0#32)
    else
      if r.val < 2 then
        (1#32, 256#32)
      else
        (1#32, 512#32)
  else
    if r.val < 4 then
      (1#32, 768#32)
    else
      if r.val < 5 then
        (2#32, 0#32)
      else
        (2#32, 256#32)
def k0_dev12 (d0 : Dev nD) : Nat :=
  let c0_i32_492 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_491 : BitVec 32 := 1#32
  let v529 : BitVec 32 := Scalar.muli v24 c1_i32_491
  let v530 : BitVec 32 := Scalar.addi c0_i32_492 v529
  v530.toNat
def k0_dev13 (d0 : Dev nD) : Nat :=
  let c0_i32_558 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_557 : BitVec 32 := 1#32
  let v594 : BitVec 32 := Scalar.muli v13 c1_i32_557
  let v595 : BitVec 32 := Scalar.addi c0_i32_558 v594
  v595.toNat
def k0_dev14 (d0 : Dev nD) : Nat :=
  let c0_i32_624 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_623 : BitVec 32 := 1#32
  let v659 : BitVec 32 := Scalar.muli v13 c1_i32_623
  let v660 : BitVec 32 := Scalar.addi c0_i32_624 v659
  v660.toNat
def k0_off4 (d0 : Dev nD) (c0_i32_722 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_671 : BitVec 32 := 2#32
  let v712 : BitVec 32 := Scalar.addi v2 c2_i32_671
  let c4_i32_672 : BitVec 32 := 4#32
  let c0_i32_673 : BitVec 32 := 0#32
  let v713 : BitVec 1 := Scalar.cmpi .eq c4_i32_672 c0_i32_673
  let c1_i32_674 : BitVec 32 := 1#32
  let v714 : BitVec 32 := Scalar.select v713 c1_i32_674 c4_i32_672
  let v715 : BitVec 32 := Scalar.remsi v712 v714
  let c0_i32_676 : BitVec 32 := 0#32
  let v717 : BitVec 1 := Scalar.cmpi .slt v715 c0_i32_676
  let c0_i32_677 : BitVec 32 := 0#32
  let v718 : BitVec 1 := Scalar.cmpi .slt v714 c0_i32_677
  let v719 : BitVec 1 := Scalar.xori v717 v718
  let c0_i32_675 : BitVec 32 := 0#32
  let v716 : BitVec 1 := Scalar.cmpi .ne v715 c0_i32_675
  let v720 : BitVec 1 := Scalar.andi v719 v716
  let v721 : BitVec 32 := Scalar.addi v715 v714
  let v722 : BitVec 32 := Scalar.select v720 v721 v715
  let c1024_i32_720 : BitVec 32 := 1024#32
  let v761 : BitVec 32 := Scalar.muli v722 c1024_i32_720
  let c512_i32_721 : BitVec 32 := 512#32
  let v762 : BitVec 32 := Scalar.addi v761 c512_i32_721
  let v763 : BitVec 32 := Scalar.addi v762 c0_i32_722
  let c0_i32_742 : BitVec 32 := 0#32
  ![v763.toNat, 0]
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Prog.lean ====
/- The kernel's program written once as a composition of a few steps: the buffers' blocks, the
   semaphores, the four kinds of remote copy, and the equality with the printed body. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic

@[expose] public section

noncomputable section

namespace Cert.RingMatmul

open Cert.KernelIdeal Cert.KernelIdeal.Gen

open Idealize.ShloMosaic
open Idealize.ShloMosaic.TcCoe
open Idealize.SL Idealize.SL.Sem

variable {F : FTy → Type} [FloatOps F]

/-! ## The ring of four devices -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩
set_option backward.proofsInPublic true in
/-- The device opposite. -/
def opp (c : Dev nD) : Dev nD := ⟨(c.val + 2) % 4, Nat.mod_lt _ (by decide)⟩

/-- The four devices as `c` counts them: itself, its left neighbour, its right one, the opposite. -/
def rel (c : Dev nD) : Fin 4 → Dev nD
  | 0 => c
  | 1 => prv c
  | 2 => nxt c
  | 3 => opp c

/-! ## The buffers -/

/-- The rows of `x` this device is given. -/
abbrev xM : Memref sig .tc .vmem S1024x4096 .f32 := Memref.whole cc0_stg0_0
/-- The two scales. -/
abbrev sxM : Memref sig .tc .smem S1 .f32 := Memref.whole cc0_stg1_0
abbrev swM : Memref sig .tc .smem S1 .f32 := Memref.whole cc0_stg2_0
/-- The columns of the weights, and the result, in the large memory. -/
abbrev wM : Memref sig .tc .hbm S4096x2048 .f32 := Memref.whole main_arg1
abbrev outM : Memref sig .tc .hbm S4096x2048 .f32 := Memref.whole main_v1
/-- The narrowed rows and the narrowed weights. -/
abbrev x8M : Memref sig .tc .vmem S1024x4096 .fp8e4m3 := Memref.whole cc0_scratch0
abbrev w8M : Memref sig .tc .vmem S4096x2048 .fp8e4m3 := Memref.whole cc0_scratch1
/-- The two slots a block of the weights arrives in. -/
abbrev wstM : Memref sig .tc .vmem S2x256x2048 .f32 := Memref.whole cc0_scratch2
/-- What the left neighbour sends, and what it forwards. -/
abbrev r0M : Memref sig .tc .vmem S1024x4096 .fp8e4m3 := Memref.whole cc0_scratch3
abbrev r1M : Memref sig .tc .vmem S2x256x4096 .fp8e4m3 := Memref.whole cc0_scratch4
/-- What the right neighbour sends, and what it forwards. -/
abbrev l0M : Memref sig .tc .vmem S1024x4096 .fp8e4m3 := Memref.whole cc0_scratch5
abbrev l1M : Memref sig .tc .vmem S2x256x4096 .fp8e4m3 := Memref.whole cc0_scratch6
/-- The two slots a block of the result leaves from. -/
abbrev stM : Memref sig .tc .vmem S2x256x2048 .f32 := Memref.whole cc0_scratch7

/-! ## The blocks -/

theorem inbX : ∀ q : Fin 4, ∀ a, (![256 * q.val, 0] : Fin 2 → ℕ) a + S256x4096.size a ≤ S1024x4096.size a := by decide
theorem inbW : ∀ b : Fin 16, ∀ a, (![256 * b.val, 0] : Fin 2 → ℕ) a + S256x2048.size a ≤ S4096x2048.size a := by decide
theorem inbH : ∀ j : Fin 2, ∀ a, (![j.val, 0, 0] : Fin 3 → ℕ) a + S1x256x4096.size a ≤ S2x256x4096.size a := by decide
theorem inbS : ∀ j : Fin 2, ∀ a, (![j.val, 0, 0] : Fin 3 → ℕ) a + S1x256x2048.size a ≤ S2x256x2048.size a := by decide

/-- Quarter `q` of a device's rows. -/
abbrev rX (q : Fin 4) : Rect S1024x4096 := Rect.unit (s := S1024x4096) ![256 * q.val, 0] S256x4096.size (inbX q)
/-- Block `b` of 256 rows of the weights. -/
abbrev rW (b : Fin 16) : Rect S4096x2048 := Rect.unit (s := S4096x2048) ![256 * b.val, 0] S256x2048.size (inbW b)
/-- Half `j` of a forwarding buffer. -/
abbrev rH (j : Fin 2) : Rect S2x256x4096 := Rect.unit (s := S2x256x4096) ![j.val, 0, 0] S1x256x4096.size (inbH j)
/-- Slot `j` of a staging buffer. -/
abbrev rS (j : Fin 2) : Rect S2x256x2048 := Rect.unit (s := S2x256x2048) ![j.val, 0, 0] S1x256x2048.size (inbS j)
/-- All of a quarter, and all of the weights. -/
abbrev rQ : Rect S256x4096 := Rect.unit (s := S256x4096) ![0, 0] S256x4096.size inb_S256x4096_S256x4096_0_0
abbrev rWW : Rect S4096x2048 := Rect.unit (s := S4096x2048) ![0, 0] S4096x2048.size inb_S4096x2048_S4096x2048_0_0

theorem packX : ∀ q : Fin 4, (rX q).PackedRows (EltTy.packing .fp8e4m3) := by decide
theorem packW : ∀ b : Fin 16, (rW b).PackedRows (EltTy.packing .fp8e4m3) := by decide
theorem wordX : ∀ q : Fin 4, (rX q).WholeWords (EltTy.packing .fp8e4m3) := by decide
theorem wordH : ∀ j : Fin 2, (rH j).WholeWords (EltTy.packing .fp8e4m3) := by decide

/-- Quarter `q` of a buffer of a device's rows. -/
abbrev quarter (m : Memref sig .tc .vmem S1024x4096 .fp8e4m3) (q : Fin 4) : Memref sig .tc .vmem S256x4096 .fp8e4m3 :=
  m.slice (rX q) (fun _ => rfl)
/-- Half `j` of a forwarding buffer, as a matrix. -/
abbrev half (m : Memref sig .tc .vmem S2x256x4096 .fp8e4m3) (j : Fin 2) : Memref sig .tc .vmem S256x4096 .fp8e4m3 :=
  (m.slice (rH j) (fun _ => rfl)).squeeze S256x4096 squeezes_S1x256x4096_S256x4096
/-- Block `b` of the weights in the large memory. -/
abbrev wBlk (b : Fin 16) : Memref sig .tc .hbm S256x2048 .f32 := wM.slice (rW b) (fun _ => rfl)
/-- Slot `s` of a staging buffer, as a matrix. -/
abbrev slot (m : Memref sig .tc .vmem S2x256x2048 .f32) (s : Fin 2) : Memref sig .tc .vmem S256x2048 .f32 :=
  (m.slice (rS s) (fun _ => rfl)).squeeze S256x2048 squeezes_S1x256x2048_S256x2048

/-- A place for a block of 256 rows in the result. -/
abbrev Place : Type := {o : Fin 2 → ℕ // ∀ a, o a + S256x2048.size a ≤ S4096x2048.size a}
/-- The result's block there. -/
abbrev oBlk (o : Place) : Memref sig .tc .hbm S256x2048 .f32 :=
  outM.slice (Rect.unit (s := S4096x2048) o.1 S256x2048.size o.2) (fun _ => rfl)

/-! ## The remote copies -/

/-- The twelve copies a device sends: its four quarters to the right and to the left, and of what it
    receives the left's first two quarters on to the right, the right's last two on to the left. -/
inductive Leg : Type
  | right (q : Fin 4)
  | left (q : Fin 4)
  | fwdR (j : Fin 2)
  | fwdL (j : Fin 2)
deriving DecidableEq

/-- The twelve copies in the order of their numbers. -/
def legs : List Leg :=
  [.right 0, .right 1, .right 2, .right 3, .left 0, .left 1, .left 2, .left 3, .fwdR 0, .fwdR 1, .fwdL 0, .fwdL 1]

theorem mem_legs : ∀ t : Leg, t ∈ legs
  | .right q => by revert q; decide
  | .left q => by revert q; decide
  | .fwdR j => by revert j; decide
  | .fwdL j => by revert j; decide

instance : Fintype Leg := ⟨legs.toFinset, fun t => List.mem_toFinset.mpr (mem_legs t)⟩

/-- The copy's number among the twelve semaphores of each array. -/
def Leg.num : Leg → ℕ
  | .right q => q.val
  | .left q => 4 + q.val
  | .fwdR j => 8 + j.val
  | .fwdL j => 10 + j.val

/-- The first two quarters, and the last two. -/
abbrev lo (j : Fin 2) : Fin 4 := ⟨j.val, Nat.lt_of_lt_of_le j.isLt (by decide)⟩
abbrev hi (j : Fin 2) : Fin 4 := ⟨2 + j.val, Nat.add_lt_add_left j.isLt 2⟩

def srcM : Leg → Memref sig .tc .vmem S256x4096 .fp8e4m3
  | .right q => quarter x8M q
  | .left q => quarter x8M q
  | .fwdR j => quarter r0M (lo j)
  | .fwdL j => quarter l0M (hi j)

def dstM : Leg → Memref sig .tc .vmem S256x4096 .fp8e4m3
  | .right q => quarter r0M q
  | .left q => quarter l0M q
  | .fwdR j => half r1M j
  | .fwdL j => half l1M j

theorem quarter_words (m : Memref sig .tc .vmem S1024x4096 .fp8e4m3) (hm : m.IsWhole) (q : Fin 4) : (quarter m q).view.WordExact :=
  hm.wordExact_slice rfl _ (wordX q)
theorem half_words (m : Memref sig .tc .vmem S2x256x4096 .fp8e4m3) (hm : m.IsWhole) (j : Fin 2) : (half m j).view.WordExact :=
  (hm.wordExact_slice rfl _ (wordH j)).reshape _ _

theorem src_words : ∀ t : Leg, (srcM t).view.WordExact
  | .right q => quarter_words _ (Memref.isWhole_whole _) q
  | .left q => quarter_words _ (Memref.isWhole_whole _) q
  | .fwdR j => quarter_words _ (Memref.isWhole_whole _) (lo j)
  | .fwdL j => quarter_words _ (Memref.isWhole_whole _) (hi j)
theorem dst_words : ∀ t : Leg, (dstM t).view.WordExact
  | .right q => quarter_words _ (Memref.isWhole_whole _) q
  | .left q => quarter_words _ (Memref.isWhole_whole _) q
  | .fwdR j => half_words _ (Memref.isWhole_whole _) j
  | .fwdL j => half_words _ (Memref.isWhole_whole _) j

theorem inb12 : ∀ t : Leg, ∀ a, (![t.num] : Fin 1 → ℕ) a + S1.size a ≤ S12.size a := by decide
theorem inb2 : ∀ s : Fin 2, ∀ a, (![s.val] : Fin 1 → ℕ) a + S1.size a ≤ S2.size a := by decide

/-- The runtime's barrier semaphore. -/
abbrev barS : Sem sig := (SemArray.scalar (sig.barrier 0 rfl) : Sems sig S_).sem
/-- A copy's two semaphores: one counts its bytes out of the source, one into the destination. -/
abbrev sendS (t : Leg) : DmaSem sig :=
  ((cc0_scratch8.slice (Rect.unit (s := S12) ![t.num] S1.size (inb12 t))).squeeze S_ squeezes_S1_S_).sem
abbrev recvS (t : Leg) : DmaSem sig :=
  ((cc0_scratch9.slice (Rect.unit (s := S12) ![t.num] S1.size (inb12 t))).squeeze S_ squeezes_S1_S_).sem
/-- The semaphores of the copies that leave and fill a staging slot. -/
abbrev outS (s : Fin 2) : DmaSem sig :=
  ((cc0_scratch10.slice (Rect.unit (s := S2) ![s.val] S1.size (inb2 s))).squeeze S_ squeezes_S1_S_).sem
abbrev wS (s : Fin 2) : DmaSem sig :=
  ((cc0_scratch11.slice (Rect.unit (s := S2) ![s.val] S1.size (inb2 s))).squeeze S_ squeezes_S1_S_).sem

/-! ## The steps -/

/-- A program of a device's core. -/
abbrev Core (F : FTy → Type) [FloatOps F] : Type 1 := Prog (TpuEff nD τ sig (Elt F) Λ₀ .tc) PUnit

/-- Narrow quarter `q` of the rows. -/
def castX (q : Fin 4) (k : Core F) : Core F :=
  .op (.load xM (rX q).toLoadRect (View.loadsAt_vmem h_S256x4096)) fun v =>
  .op (.load x8M (rX q).toLoadRect (View.loadsAt_vmem h_S256x4096)) fun _ =>
  .op (.store x8M (rX q) (k0_pay2 v) Finset.univ
    (View.stores_vmem h_S256x4096 ((Memref.isWhole_whole _).storeExact_slice rfl _ (packX q)) (fun _ => rfl)) (.inl rfl)) fun _ => k

/-- Send copy `t` to device `n`. -/
def send (t : Leg) (n : Dev nD) (k : Core F) : Core F :=
  .op (.enqueueDma (srcM t) (.remote (Dev.tc n : Thread nD τ) (dstM t) (.dma (sendS t))) (.dma (recvS t)) (src_words t) (dst_words t)
    ⟨⟨rfl, Or.inl rfl⟩, trivial⟩) fun _ => k

/-- Wait for the arrival of copy `t`. -/
def waitRecv (t : Leg) (k : Core F) : Core F :=
  .op (.waitDma2 (recvS t) (srcM t) (dstM t) (src_words t) (dst_words t)) fun _ => k

/-- Wait until copy `t` has left its source. -/
def waitSend (t : Leg) (k : Core F) : Core F :=
  .op (.waitDma2 (sendS t) (dstM t) (srcM t) (dst_words t) (src_words t)) fun _ => k

/-- Start the copy of block `b` of the weights into slot `s`. -/
def wStart (b : Fin 16) (s : Fin 2) (k : Core F) : Core F :=
  .op (.enqueueDma (wBlk b) (.here (slot wstM s)) (.dma (wS s)) (View.wordExact_bits rfl) ((View.wordExact_bits rfl).reshape _ _)
    ⟨Or.inl rfl, trivial⟩) fun _ => k

/-- Wait for block `b` in slot `s` and narrow it. -/
def wTake (b : Fin 16) (s : Fin 2) (k : Core F) : Core F :=
  .op (.waitDma2 (wS s) (wBlk b) (slot wstM s) (View.wordExact_bits rfl) ((View.wordExact_bits rfl).reshape _ _)) fun _ =>
  .op (.load wstM (rS s).toLoadRect (View.loadsAt_vmem h_S1x256x2048)) fun v =>
  .op (.load w8M (rW b).toLoadRect (View.loadsAt_vmem h_S256x2048)) fun _ =>
  .op (.store w8M (rW b) (k0_pay6 v) Finset.univ
    (View.stores_vmem h_S256x2048 ((Memref.isWhole_whole _).storeExact_slice rfl _ (packW b)) (fun _ => rfl)) (.inl rfl)) fun _ => k

/-- Wait until the block at `o` has left slot `s`. -/
def outWait (s : Fin 2) (o : Place) (k : Core F) : Core F :=
  .op (.waitDma2 (outS s) (slot stM s) (oBlk o) ((View.wordExact_bits rfl).reshape _ _) (View.wordExact_bits rfl)) fun _ => k

/-- Multiply the rows `v` by the weights, scale, clamp below at zero, and start the copy of the block
    through slot `s` to the place `o`. -/
def rows (sc : F .f32) (v : Vec F S256x4096 .fp8e4m3) (s : Fin 2) (o : Place) (k : Core F) : Core F :=
  .op (.load w8M rWW.toLoadRect (View.loadsAt_vmem h_S4096x2048)) fun w =>
  .op (.load stM (rS s).toLoadRect (View.loadsAt_vmem h_S1x256x2048)) fun _ =>
  .op (.store stM (rS s) (k0_pay27 sc v w) Finset.univ (View.stores_vmem_bits_univ h_S1x256x2048 rfl) (.inl rfl)) fun _ =>
  .op (.enqueueDma (slot stM s) (.here (oBlk o)) (.dma (outS s)) ((View.wordExact_bits rfl).reshape _ _) (View.wordExact_bits rfl)
    ⟨Or.inl rfl, trivial⟩) fun _ => k

/-- The same with the rows loaded from quarter `q` of a buffer, -/
def rowsQ (sc : F .f32) (m : Memref sig .tc .vmem S1024x4096 .fp8e4m3) (q : Fin 4) (s : Fin 2) (o : Place) (k : Core F) : Core F :=
  .op (.load m (rX q).toLoadRect (View.loadsAt_vmem h_S256x4096)) fun v => rows sc v s o k
/-- and from half `j` of a forwarding buffer. -/
def rowsH (sc : F .f32) (m : Memref sig .tc .vmem S2x256x4096 .fp8e4m3) (j : Fin 2) (s : Fin 2) (o : Place) (k : Core F) : Core F :=
  .op (.load (half m j) rQ.toLoadRect (View.loadsAt_vmem h_S256x4096)) fun v => rows sc v s o k

/-! ## The parts of the body

Each takes the places of the result's blocks, `o a q` being quarter `q` of device `rel c a`. -/

/-- Tell both neighbours this device has begun, wait for both, read the scales. -/
def begin (n p : Dev nD) (k : F .f32 → Core F) : Core F :=
  .op (.semSignal (Dev.tc p : Thread nD τ) barS (1#32 : BitVec 32).toInt) fun _ =>
  .op (.semSignal (Dev.tc n : Thread nD τ) barS (1#32 : BitVec 32).toInt) fun _ =>
  .op (.semWait barS (2#32 : BitVec 32).toInt) fun _ =>
  .op (.load sxM (Rect.unit (s := S1) ![0] S1.size inb_S1_S1_0) (View.loadsAt_rect (View.loads_smem_one rfl numel1_S1))) fun f =>
  .op (.load swM (Rect.unit (s := S1) ![0] S1.size inb_S1_S1_0) (View.loadsAt_rect (View.loads_smem_one rfl numel1_S1))) fun g =>
  k (k0_pay1 (f (Shape.Idx.first (numel1_S1.symm ▸ Nat.one_pos))) (g (Shape.Idx.first (numel1_S1.symm ▸ Nat.one_pos))))

/-- Narrow quarter `q` and send it both ways. -/
def quarterOut (n p : Dev nD) (q : Fin 4) (k : Core F) : Core F :=
  castX q <| send (.right q) n <| send (.left q) p k

/-- Take block `b` of the weights while the next one arrives. -/
def wStep (b b' : Fin 16) (s s' : Fin 2) (k : Core F) : Core F := wStart b' s' <| wTake b s k

/-- The other of the two slots. -/
def other : Fin 2 → Fin 2
  | 0 => 1
  | 1 => 0

/-- Block `b` is on its way to slot `s`: take it while the next of the blocks `l` arrives in the other
    slot, and so on to the last. -/
def takeAll (k : Core F) : Fin 16 → Fin 2 → List (Fin 16) → Core F
  | b, s, [] => wTake b s k
  | b, s, b' :: l => wStep b b' s (other s) (takeAll k b' (other s) l)

/-- All sixteen blocks of the weights. -/
def weights (k : Core F) : Core F :=
  wStart 0 0 <| takeAll k 0 0 [1, 2, 3, 4, 5, 6, 7, 8, 9, 10, 11, 12, 13, 14, 15]

/-- The device's own rows. -/
def own (sc : F .f32) (o : Fin 4 → Fin 4 → Place) (k : Core F) : Core F :=
  rowsQ sc x8M 0 0 (o 0 0) <| rowsQ sc x8M 1 1 (o 0 1) <|
  outWait 0 (o 0 0) <| rowsQ sc x8M 2 0 (o 0 2) <| outWait 1 (o 0 1) <| rowsQ sc x8M 3 1 (o 0 3) k

/-- The two neighbours' quarter `q`: its arrival, its being sent on, its products. The slots' copies
    still under way are those to the places `u` and `v`. -/
def hop (sc : F .f32) (o : Fin 4 → Fin 4 → Place) (fwd : Core F → Core F) (q : Fin 4) (u v : Place) (k : Core F) : Core F :=
  waitRecv (.right q) <| waitRecv (.left q) <| fwd <|
  outWait 0 u <| rowsQ sc r0M q 0 (o 1 q) <| outWait 1 v <| rowsQ sc l0M q 1 (o 2 q) k

/-- The opposite device's quarters `j` and `2 + j`. -/
def far (sc : F .f32) (o : Fin 4 → Fin 4 → Place) (j : Fin 2) (u v : Place) (k : Core F) : Core F :=
  waitRecv (.fwdR j) <| outWait 0 u <| rowsH sc r1M j 0 (o 3 (lo j)) <|
  waitRecv (.fwdL j) <| outWait 1 v <| rowsH sc l1M j 1 (o 3 (hi j)) k

def hops (sc : F .f32) (n p : Dev nD) (o : Fin 4 → Fin 4 → Place) (k : Core F) : Core F :=
  hop sc o (send (.fwdR 0) n) 0 (o 0 2) (o 0 3) <| hop sc o (send (.fwdR 1) n) 1 (o 1 0) (o 2 0) <|
  hop sc o (send (.fwdL 0) p) 2 (o 1 1) (o 2 1) <| hop sc o (send (.fwdL 1) p) 3 (o 1 2) (o 2 2) k

def fars (sc : F .f32) (o : Fin 4 → Fin 4 → Place) (k : Core F) : Core F :=
  far sc o 0 (o 1 3) (o 2 3) <| far sc o 1 (o 3 0) (o 3 2) k

/-- Every copy sent has left, and the last two blocks are in place. -/
def finish (o : Fin 4 → Fin 4 → Place) (k : Core F) : Core F :=
  waitSend (.right 0) <| waitSend (.right 1) <| waitSend (.right 2) <| waitSend (.right 3) <|
  waitSend (.left 0) <| waitSend (.left 1) <| waitSend (.left 2) <| waitSend (.left 3) <|
  waitSend (.fwdR 0) <| waitSend (.fwdR 1) <| waitSend (.fwdL 0) <| waitSend (.fwdL 1) <|
  outWait 0 (o 3 1) <| outWait 1 (o 3 3) k

/-- The body at a device whose neighbours are `n` and `p` and whose blocks go to the places `o`. -/
def prog (n p : Dev nD) (o : Fin 4 → Fin 4 → Place) : Core F :=
  begin n p fun sc =>
  quarterOut n p 0 <| quarterOut n p 1 <| quarterOut n p 2 <| quarterOut n p 3 <|
  weights <| own sc o <| hops sc n p o <| fars sc o <| finish o <| .ret ⟨⟩

/-! ## The printed body -/

/-- The places as the kernel computes them. -/
def printedPlace (c : Dev nD) : Fin 4 → Fin 4 → Place
  | 0, q => ⟨k0_off1 c (BitVec.ofNat 32 (256 * q.val)), k0_off1_inb c q⟩
  | 1, q => ⟨k0_off2 c (BitVec.ofNat 32 (256 * q.val)), k0_off2_inb c q⟩
  | 2, 0 => ⟨k0_off3 c 1#32 0#32, k0_off3_inb c 0⟩
  | 2, 1 => ⟨k0_off3 c 1#32 256#32, k0_off3_inb c 1⟩
  | 2, 2 => ⟨k0_off3 c 1#32 512#32, k0_off3_inb c 2⟩
  | 2, 3 => ⟨k0_off3 c 1#32 768#32, k0_off3_inb c 3⟩
  | 3, 0 => ⟨k0_off3 c 2#32 0#32, k0_off3_inb c 4⟩
  | 3, 1 => ⟨k0_off3 c 2#32 256#32, k0_off3_inb c 5⟩
  | 3, 2 => ⟨k0_off4 c 0#32, k0_off4_inb c 0⟩
  | 3, 3 => ⟨k0_off4 c 256#32, k0_off4_inb c 1⟩

/-- The printed body is the program above, at the neighbours and the places the kernel computes. -/
theorem body_eq : cc0_body (F := F) (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11
    = .op .deviceId fun c => prog ⟨k0_dev2 c, k0_dev2_lt c⟩ ⟨k0_dev1 c, k0_dev1_lt c⟩ (printedPlace c) := by
  sl_kernel_rfl

/-! ## Where the neighbours and the places are -/

theorem printed_nxt (c : Dev nD) : (⟨k0_dev2 c, k0_dev2_lt c⟩ : Dev nD) = nxt c := by revert c; decide +kernel
theorem printed_prv (c : Dev nD) : (⟨k0_dev1 c, k0_dev1_lt c⟩ : Dev nD) = prv c := by revert c; decide +kernel

theorem inbO : ∀ (d : Dev nD) (q : Fin 4), ∀ a, (![1024 * d.val + 256 * q.val, 0] : Fin 2 → ℕ) a + S256x2048.size a ≤ S4096x2048.size a := by
  decide

/-- The rows of the result that quarter `q` of device `d` makes. -/
def placeOf (d : Dev nD) (q : Fin 4) : Place := ⟨![1024 * d.val + 256 * q.val, 0], inbO d q⟩

theorem printedPlace_val : ∀ (c : Dev nD) (a q : Fin 4), (printedPlace c a q).1 = ![1024 * (rel c a).val + 256 * q.val, 0] := by
  decide +kernel

theorem printedPlace_eq (c : Dev nD) : printedPlace c = fun a q => placeOf (rel c a) q :=
  funext fun a => funext fun q => Subtype.ext (printedPlace_val c a q)

/-- The body of device `c`'s core after it has read which device it is. -/
theorem prog_printed (c : Dev nD) :
    prog (F := F) ⟨k0_dev2 c, k0_dev2_lt c⟩ ⟨k0_dev1 c, k0_dev1_lt c⟩ (printedPlace c)
      = prog (nxt c) (prv c) fun a q => placeOf (rel c a) q := by
  rw [printed_nxt, printed_prv, printedPlace_eq]

end Cert.RingMatmul

end
-- ==== Proof.Protocol.lean ====
/- The protocol of the ring: what each block holds, what each semaphore's payment hands over, what each
   device owes at launch, and in what order the waits may be made. -/
module

public import proofs.«01_k».proof.Proof.Prog
public import Idealize.ShloMosaic.Lib.Pipeline.Launch
public import Idealize.ShloMosaic.Lib.Pipeline.Kit
public import Idealize.ShloMosaic.Lib.Transfers

@[expose] public section

noncomputable section

namespace Cert.RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## The resource algebra: the pipeline's copy, the ring's, and the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring's arithmetic -/

theorem prv_nxt (c : Dev nD) : prv (nxt c) = c := by revert c; decide
theorem nxt_prv (c : Dev nD) : nxt (prv c) = c := by revert c; decide
theorem nxt_nxt (c : Dev nD) : nxt (nxt c) = opp c := by revert c; decide
theorem prv_prv (c : Dev nD) : prv (prv c) = opp c := by revert c; decide

def ring : Dev nD ≃ Dev nD := ⟨nxt, prv, prv_nxt, nxt_prv⟩

/-! ## Contents -/

/-- The rows, the columns of the weights and the scales device `c` is given. -/
def rowsIn (c : Dev nD) : S1024x4096.Idx → Elt F .f32 :=
  (win0_0.blk (0 : Fin 1)).view.read (Elt F) ((s₀ m ρ).mem ((c : Thread nD τ).loc main_arg0))
def weightsIn (c : Dev nD) : S4096x2048.Idx → Elt F .f32 := (s₀ m ρ).mem ((c : Thread nD τ).loc main_arg1)
def scaleX (c : Dev nD) : S1.Idx → Elt F .f32 :=
  (win0_1.blk (0 : Fin 1)).view.read (Elt F) ((s₀ m ρ).mem ((c : Thread nD τ).loc main_arg2))
def scaleW (c : Dev nD) : S1.Idx → Elt F .f32 :=
  (win0_2.blk (0 : Fin 1)).view.read (Elt F) ((s₀ m ρ).mem ((c : Thread nD τ).loc main_arg3))

/-- The product of the two scales. -/
def scale (c : Dev nD) : F .f32 :=
  k0_pay1 (scaleX m ρ c (Shape.Idx.first (numel1_S1.symm ▸ Nat.one_pos))) (scaleW m ρ c (Shape.Idx.first (numel1_S1.symm ▸ Nat.one_pos)))

/-- The rows narrowed, by quarters, and the weights narrowed. -/
def x8 (c : Dev nD) (q : Fin 4) : S256x4096.Idx → Elt F .fp8e4m3 := k0_pay2 fun j => rowsIn m ρ c ((rX q).emb j)
def w8 (c : Dev nD) : S4096x2048.Idx → Elt F .fp8e4m3 := truncf .fp8e4m3 (weightsIn m ρ c) bitsLt_fp8e4m3_f32

/-- The block of device `c`'s result that quarter `q` of device `d`'s rows makes. -/
def prod (c d : Dev nD) (q : Fin 4) : S256x2048.Idx → Elt F .f32 := k0_pay25 (scale m ρ c) (x8 m ρ d q) (w8 m ρ c)

/-! ## The copies: where each goes, what it carries -/

/-- The copies that go to the right. -/
def Leg.goesRight : Leg → Bool
  | .right _ => true
  | .left _ => false
  | .fwdR _ => true
  | .fwdL _ => false

/-- The copies sent on rather than sent first. -/
def Leg.fwd : Leg → Bool
  | .right _ => false
  | .left _ => false
  | .fwdR _ => true
  | .fwdL _ => true

/-- The neighbour on one side. -/
def side (b : Bool) (c : Dev nD) : Dev nD := bif b then nxt c else prv c

/-- Where device `c`'s copy `t` goes. -/
abbrev tgt (t : Leg) (c : Dev nD) : Dev nD := side t.goesRight c

/-- What device `c` sends in copy `t`; -/
def sent (c : Dev nD) : Leg → S256x4096.Idx → Elt F .fp8e4m3
  | .right q => x8 m ρ c q
  | .left q => x8 m ρ c q
  | .fwdR j => x8 m ρ (prv c) (lo j)
  | .fwdL j => x8 m ρ (nxt c) (hi j)

/-- what it receives in copy `t`, from the other side. -/
def got (c : Dev nD) (t : Leg) : S256x4096.Idx → Elt F .fp8e4m3 := sent m ρ (side (!t.goesRight) c) t

theorem side_side (b : Bool) (c : Dev nD) : side (!b) (side b c) = c := by
  cases b
  · exact nxt_prv c
  · exact prv_nxt c

theorem got_tgt (c : Dev nD) (t : Leg) : got m ρ (tgt t c) t = sent m ρ c t := by unfold got tgt; rw [side_side]

/-- The share of its source a copy reads under: of the narrowed rows one for each way, beside the share
    the products are made under. -/
def shr : Leg → PosShare TreeShare
  | .right _ => fullShare.right.left
  | .left _ => fullShare.right.right
  | .fwdR _ => fullShare.right
  | .fwdL _ => fullShare.right

/-- The bytes of one copy. -/
abbrev N : ℕ := (dstM (.right 0)).view.dmaCredit
theorem N_pos : 0 < N := View.dmaCredit_pos _ (by decide)
theorem credit_dst : ∀ t : Leg, (dstM t).view.dmaCredit = N
  | .right _ => rfl
  | .left _ => rfl
  | .fwdR _ => rfl
  | .fwdL _ => rfl
theorem credit_src : ∀ t : Leg, (srcM t).view.dmaCredit = N
  | .right _ => rfl
  | .left _ => rfl
  | .fwdR _ => rfl
  | .fwdL _ => rfl

/-! ## The cells -/

/-- A device's cells: the barrier's, and of each copy the source's (`false`) and the destination's (`true`). -/
abbrev CellIx : Type := Option (Bool × Leg)

def csem : CellIx → SemLoc sig
  | none => .reg barS
  | some (false, t) => .dma (sendS t)
  | some (true, t) => .dma (recvS t)

theorem csem_injective : Function.Injective csem := by
  have h : ∀ k k' : CellIx, csem k = csem k' → k = k' := by decide +kernel
  exact fun k k' => h k k'

abbrev kcell (ck : Dev nD × CellIx) : GSem nD τ sig := ((ck.1 : Thread nD τ), csem ck.2)
abbrev barCell (c : Dev nD) : GSem nD τ sig := kcell (c, none)
abbrev sendCell (c : Dev nD) (t : Leg) : GSem nD τ sig := kcell (c, some (false, t))
abbrev recvCell (c : Dev nD) (t : Leg) : GSem nD τ sig := kcell (c, some (true, t))

theorem kcell_injective : Function.Injective kcell := fun a b h =>
  Prod.ext (congrArg (fun g : GSem nD τ sig => g.1.1) h) (csem_injective (congrArg (fun g : GSem nD τ sig => g.2) h))

open Classical in
/-- Which of the cells a semaphore is, if it is one. -/
def kind (s : SemLoc sig) : Option CellIx := if h : ∃ k, csem k = s then some h.choose else none

theorem kind_csem (k : CellIx) : kind (csem k) = some k := by
  unfold kind
  have h : ∃ k', csem k' = csem k := ⟨k, rfl⟩
  rw [dif_pos h]
  exact congrArg some (csem_injective h.choose_spec)

theorem kind_none {s : SemLoc sig} (h : ∀ k, csem k ≠ s) : kind s = none := by
  unfold kind
  exact dif_neg fun ⟨k, hk⟩ => h k hk

/-! ## The payments -/

/-- What the neighbour on side `b` hands device `c` with its barrier signal: the buffers the copies of
    `c` to that side go into. -/
def barPay (c : Dev nD) (b : Bool) : sProp 𝕄 :=
  bigSep (Finset.univ.filter fun t : Leg => t.goesRight = b) fun t => iprop(∃ Y, owns (side b c : Thread nD τ) (dstM t) fullShare Y)
def recvPay (c : Dev nD) (t : Leg) : sProp 𝕄 := owns (c : Thread nD τ) (dstM t) fullShare (got m ρ c t)
def sendPay (c : Dev nD) (t : Leg) : sProp 𝕄 := owns (c : Thread nD τ) (srcM t) (shr t) (sent m ρ c t)

def cellPay (c : Dev nD) : CellIx → Bool → sProp 𝕄
  | none, b => barPay c b
  | some (false, t), _ => sendPay m ρ c t
  | some (true, t), _ => recvPay m ρ c t

def cellDuties : CellIx → Finset Bool
  | none => Finset.univ
  | some _ => {false}

def cellAmount : CellIx → ℕ
  | none => 1
  | some _ => N

instance barPay_storable (c : Dev nD) (b : Bool) : BI.Storable (upEmb : UEmb _ 𝕄) (barPay (F := F) c b) := by
  unfold barPay; infer_instance
instance cellPay_storable (c : Dev nD) : ∀ (k : CellIx) (b : Bool), BI.Storable (upEmb : UEmb _ 𝕄) (cellPay m ρ c k b)
  | none, b => barPay_storable c b
  | some (false, t), _ => by unfold cellPay sendPay; infer_instance
  | some (true, t), _ => by unfold cellPay recvPay; infer_instance

/-- One round. A barrier cell has two duties of one unit, one for each neighbour; every other cell the
    one duty of a copy's bytes. -/
def ringRd : Rounds.Schedule (GSem nD τ sig) Bool 𝕄 where
  duties g r := if r = 0 ∧ g.1.2 = .tc then (kind g.2).elim ∅ cellDuties else ∅
  unitless _ := False
  amount g _ _ := (kind g.2).elim 1 cellAmount
  payload g _ d := (kind g.2).elim iprop(emp) fun k => cellPay m ρ g.1.1 k d
  amount_pos g _ _ _ := by
    cases kind g.2 with
    | none => exact Nat.one_pos
    | some k => cases k with
      | none => exact Nat.one_pos
      | some p => exact N_pos

instance ringRd_payload_storable (g : GSem nD τ sig) (r : ℕ) (d : Bool) :
    BI.Storable (upEmb : UEmb _ 𝕄) ((ringRd m ρ).payload g r d) := by
  show BI.Storable upEmb ((kind g.2).elim iprop(emp) fun k => cellPay m ρ g.1.1 k d)
  cases kind g.2 with
  | none => show BI.Storable upEmb iprop(emp); infer_instance
  | some k => exact cellPay_storable m ρ g.1.1 k d

section Cells
variable (c : Dev nD) (k : CellIx)

theorem duties_cell : (ringRd m ρ).duties (kcell (c, k)) 0 = cellDuties k := by
  show (if (0 : ℕ) = 0 ∧ (kcell (c, k)).1.2 = .tc then (kind (csem k)).elim ∅ cellDuties else ∅) = _
  rw [if_pos ⟨rfl, rfl⟩, kind_csem]; rfl
theorem duties_later (g : GSem nD τ sig) : ∀ r, 1 ≤ r → (ringRd m ρ).duties g r = ∅ :=
  fun r hr => if_neg fun h => by omega
theorem amount_cell (d : Bool) : (ringRd m ρ).amount (kcell (c, k)) 0 d = cellAmount k := by
  show (kind (csem k)).elim 1 cellAmount = _
  rw [kind_csem]; rfl
theorem payload_cell (d : Bool) : (ringRd m ρ).payload (kcell (c, k)) 0 d = cellPay m ρ c k d := by
  show ((kind (csem k)).elim iprop(emp) fun k' => cellPay m ρ c k' d) = _
  rw [kind_csem]; rfl

theorem expect_bar : (ringRd m ρ).expect (barCell c) 0 = 2 := by
  unfold Schedule.expect Schedule.amountOf
  rw [duties_cell, Finset.sum_congr rfl fun d _ => amount_cell m ρ c none d]
  decide
theorem expect_copy (p : Bool × Leg) : (ringRd m ρ).expect (kcell (c, some p)) 0 = N := by
  unfold Schedule.expect Schedule.amountOf
  rw [duties_cell]
  exact (Finset.sum_singleton _ _).trans (amount_cell m ρ c (some p) false)

/-- A whole round's payments: at the barrier, of both neighbours; at a copy's cell, the one. -/
theorem rest_bar : bigSep ((ringRd m ρ).duties (barCell c) 0 \ ∅) (fun d => (ringRd m ρ).payload (barCell c) 0 d)
    = bigSep Finset.univ fun t : Leg => iprop(∃ Y, owns (tgt t c : Thread nD τ) (dstM t) fullShare Y) := by
  rw [Finset.sdiff_empty, duties_cell]
  show bigSep Finset.univ _ = _
  rw [bigSep_univ_eq_bigSepL [false, true] (by decide) (by decide), bigSepL_cons_cons, bigSepL_singleton, payload_cell, payload_cell]
  rw [BI.bigSep_filter_split (Finset.univ : Finset Leg) (fun t => t.goesRight = false)]
  have e₁ : (barPay (F := F) c false : sProp 𝕄) = bigSep (Finset.univ.filter fun t : Leg => t.goesRight = false)
      fun t => iprop(∃ Y, owns (tgt t c : Thread nD τ) (dstM t) fullShare Y) :=
    BI.bigSep_congr fun t ht => by rw [tgt, (Finset.mem_filter.mp ht).2]
  have e₂ : (barPay (F := F) c true : sProp 𝕄) = bigSep (Finset.univ.filter fun t : Leg => ¬ t.goesRight = false)
      fun t => iprop(∃ Y, owns (tgt t c : Thread nD τ) (dstM t) fullShare Y) := by
    have : (Finset.univ.filter fun t : Leg => ¬ t.goesRight = false) = Finset.univ.filter fun t : Leg => t.goesRight = true := by
      simp only [Bool.not_eq_false]
    rw [this]
    exact BI.bigSep_congr fun t ht => by rw [tgt, (Finset.mem_filter.mp ht).2]
  exact congrArg₂ BI.sep e₁ e₂
theorem rest_copy (p : Bool × Leg) :
    bigSep ((ringRd m ρ).duties (kcell (c, some p)) 0 \ ∅) (fun d => (ringRd m ρ).payload (kcell (c, some p)) 0 d)
      = cellPay m ρ c (some p) false := by
  rw [Finset.sdiff_empty, duties_cell]
  show bigSep {false} _ = _
  rw [bigSep_singleton, payload_cell]

end Cells

/-! ## What each device owes, and the levels -/

/-- The copies in the order they are sent. -/
def sends : List Leg :=
  [.right 0, .left 0, .right 1, .left 1, .right 2, .left 2, .right 3, .left 3, .fwdR 0, .fwdR 1, .fwdL 0, .fwdL 1]

/-- What device `c` owes while it still has the copies `l` to send. -/
def owed (c : Dev nD) : List Leg → CellTallies nD τ sig Unit
  | [] => 0
  | t :: l => owed c l + tallyAt (recvCell (tgt t c) t) () N

/-- At launch: every copy, and a unit to each neighbour's barrier. -/
def O₁ (c : Dev nD) : CellTallies nD τ sig Unit := owed c sends + tallyAt (barCell (nxt c)) () 1
def O₀ (c : Dev nD) : CellTallies nD τ sig Unit := O₁ c + tallyAt (barCell (prv c)) () 1

/-- The levels: the barrier, then the first arrivals, then the arrivals of what is sent on. -/
def cellLev : CellIx → ℕ
  | none => 1
  | some (false, _) => 0
  | some (true, t) => bif t.fwd then 3 else 2

def L (g : GSem nD τ sig) : Finset Unit := if g.1.2 = .tc then {()} else ∅
def lv (g : GSem nD τ sig) (_ : Unit) : ℕ := (kind g.2).elim 0 cellLev

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CellIx) (u : Unit) : lv (kcell (c, k)) u = cellLev k := by
  show (kind (csem k)).elim 0 cellLev = _
  rw [kind_csem]; rfl

theorem owed_pos {c : Dev nD} {g : GSem nD τ sig} {u : Unit} : ∀ {l : List Leg}, 0 < owed c l g u → ∃ t ∈ l, g = recvCell (tgt t c) t
  | [], h => absurd h (Nat.lt_irrefl 0)
  | t :: l, h => by
    unfold owed at h
    rw [Pi.add_apply, Finsupp.add_apply, tallyAt_apply] at h
    by_cases hg : g = recvCell (tgt t c) t ∧ u = ()
    · exact ⟨t, List.mem_cons_self, hg.1⟩
    · rw [if_neg hg, Nat.add_zero] at h
      obtain ⟨t', ht', e⟩ := owed_pos h
      exact ⟨t', List.mem_cons_of_mem _ ht', e⟩

theorem O₀_pos {c : Dev nD} {g : GSem nD τ sig} {u : Unit} (h : 0 < O₀ c g u) :
    (∃ t ∈ sends, g = recvCell (tgt t c) t) ∨ g = barCell (nxt c) ∨ g = barCell (prv c) := by
  unfold O₀ O₁ at h
  rw [Pi.add_apply, Finsupp.add_apply, Pi.add_apply, Finsupp.add_apply, tallyAt_apply, tallyAt_apply] at h
  by_cases h₁ : g = barCell (nxt c) ∧ u = ()
  · exact .inr (.inl h₁.1)
  by_cases h₂ : g = barCell (prv c) ∧ u = ()
  · exact .inr (.inr h₂.1)
  rw [if_neg h₁, if_neg h₂, Nat.add_zero] at h
  exact .inl (owed_pos h)

/-- A wait below every copy still to be sent is allowed. -/
theorem mayWait_owed (c : Dev nD) (sm : SemLoc sig) (n : ℕ) (l : List Leg) (hs : lv ((c : Thread nD τ), sm) () ≤ n)
    (hl : ∀ t ∈ l, n < cellLev (some (true, t))) : (levAts L lv : sProp 𝕄) ⊢ MayWait (c : Thread nD τ) sm () (owed c l) :=
  MayOwe.of_cut (L := L) (lev := lv) n (fun p hp => by rw [Finset.mem_singleton.mp hp, L_tc]; exact Finset.mem_singleton_self _)
    (fun g u hg => by obtain ⟨t, -, rfl⟩ := owed_pos hg; exact Finset.mem_singleton_self _)
    (fun p hp => by rw [Finset.mem_singleton.mp hp]; exact hs)
    (fun g u hg => by obtain ⟨t, ht, rfl⟩ := owed_pos hg; rw [lv_cell]; exact hl t ht)

theorem lev_pos : ∀ t : Leg, 0 < cellLev (some (true, t))
  | .right _ => Nat.two_pos
  | .left _ => Nat.two_pos
  | .fwdR _ => Nat.succ_pos 2
  | .fwdL _ => Nat.succ_pos 2

/-- The pipeline's own waits, below everything owed at launch, and with nothing owed. -/
theorem mayWait_stage (c : Dev nD) (q : DmaSem sig) (hq : ∀ k, csem k ≠ .dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, -, rfl⟩ | rfl | rfl <;> exact Finset.mem_singleton_self _)
      (fun p hp => by
        rw [Finset.mem_singleton.mp hp]
        show (kind (.dma q)).elim 0 cellLev ≤ 0
        rw [kind_none hq]; exact Nat.le_refl 0)
      (fun g u hg => by
        rcases O₀_pos hg with ⟨t, -, rfl⟩ | rfl | rfl
        · rw [lv_cell]; exact lev_pos t
        · rw [lv_cell]; decide
        · rw [lv_cell]; decide)
  · rw [MayWait_zero]; iintro -; iempintro

end Cert.RingMatmul

end
-- ==== Proof.Blocks.lean ====
/- A buffer as its blocks, and the rules of a load, a store and a local copy for a block held whole. -/
module

public import proofs.«01_k».proof.Proof.Protocol
public import Idealize.ShloMosaic.Lib.Memref
public import Idealize.ShloMosaic.Lib.MemrefSat
public import Idealize.ShloMosaic.Lib.Tactic

@[expose] public section

noncomputable section

namespace Cert.RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ UU ℕ

/-! ## The families of blocks are disjoint and cover -/

theorem rX_disjoint (q q' : Fin 4) (h : q ≠ q') : Disjoint (rX q).set (rX q').set :=
  Rect.disjoint_of_separated _ _ (0 : Fin 2) (by
    have := Fin.val_ne_of_ne h
    show ((256 : ℕ) = 0 ∨ 256 * q.val + 1 * (256 - 1) < 256 * q'.val) ∨ ((256 : ℕ) = 0 ∨ 256 * q'.val + 1 * (256 - 1) < 256 * q.val)
    omega)
theorem rX_cover : (Finset.univ : Finset (Fin 4)).biUnion (fun q => (rX q).set) = Finset.univ := by
  ext i
  simp only [Finset.mem_biUnion, Finset.mem_univ, true_and, iff_true]
  have h₀ : (i (0 : Fin 2)).val < 1024 := (i (0 : Fin 2)).isLt
  have h₁ : (i (1 : Fin 2)).val < 4096 := (i (1 : Fin 2)).isLt
  refine ⟨⟨(i (0 : Fin 2)).val / 256, by omega⟩, Rect.mem_set_unit.mpr (Fin.forall_fin_two.mpr ⟨?_, ?_⟩)⟩
  · show 256 * ((i (0 : Fin 2)).val / 256) ≤ (i (0 : Fin 2)).val ∧ (i (0 : Fin 2)).val < 256 * ((i (0 : Fin 2)).val / 256) + 256
    omega
  · show 0 ≤ (i (1 : Fin 2)).val ∧ (i (1 : Fin 2)).val < 0 + 4096
    omega

theorem rW_disjoint (b b' : Fin 16) (h : b ≠ b') : Disjoint (rW b).set (rW b').set :=
  Rect.disjoint_of_separated _ _ (0 : Fin 2) (by
    have := Fin.val_ne_of_ne h
    show ((256 : ℕ) = 0 ∨ 256 * b.val + 1 * (256 - 1) < 256 * b'.val) ∨ ((256 : ℕ) = 0 ∨ 256 * b'.val + 1 * (256 - 1) < 256 * b.val)
    omega)
theorem rW_cover : (Finset.univ : Finset (Fin 16)).biUnion (fun b => (rW b).set) = Finset.univ := by
  ext i
  simp only [Finset.mem_biUnion, Finset.mem_univ, true_and, iff_true]
  have h₀ : (i (0 : Fin 2)).val < 4096 := (i (0 : Fin 2)).isLt
  have h₁ : (i (1 : Fin 2)).val < 2048 := (i (1 : Fin 2)).isLt
  refine ⟨⟨(i (0 : Fin 2)).val / 256, by omega⟩, Rect.mem_set_unit.mpr (Fin.forall_fin_two.mpr ⟨?_, ?_⟩)⟩
  · show 256 * ((i (0 : Fin 2)).val / 256) ≤ (i (0 : Fin 2)).val ∧ (i (0 : Fin 2)).val < 256 * ((i (0 : Fin 2)).val / 256) + 256
    omega
  · show 0 ≤ (i (1 : Fin 2)).val ∧ (i (1 : Fin 2)).val < 0 + 2048
    omega

theorem rH_disjoint (j j' : Fin 2) (h : j ≠ j') : Disjoint (rH j).set (rH j').set :=
  Rect.disjoint_of_separated _ _ (0 : Fin 3) (by
    have := Fin.val_ne_of_ne h
    show ((1 : ℕ) = 0 ∨ j.val + 1 * (1 - 1) < j'.val) ∨ ((1 : ℕ) = 0 ∨ j'.val + 1 * (1 - 1) < j.val)
    omega)
theorem rH_cover : (Finset.univ : Finset (Fin 2)).biUnion (fun j => (rH j).set) = Finset.univ := by
  ext i
  simp only [Finset.mem_biUnion, Finset.mem_univ, true_and, iff_true]
  have h₁ : (i (1 : Fin 3)).val < 256 := (i (1 : Fin 3)).isLt
  have h₂ : (i (2 : Fin 3)).val < 4096 := (i (2 : Fin 3)).isLt
  refine ⟨i (0 : Fin 3), Rect.mem_set_unit.mpr (Fin.forall_fin_succ.mpr ⟨?_, Fin.forall_fin_two.mpr ⟨?_, ?_⟩⟩)⟩
  · show (i (0 : Fin 3)).val ≤ (i (0 : Fin 3)).val ∧ (i (0 : Fin 3)).val < (i (0 : Fin 3)).val + 1
    omega
  · show 0 ≤ (i (1 : Fin 3)).val ∧ (i (1 : Fin 3)).val < 0 + 256
    omega
  · show 0 ≤ (i (2 : Fin 3)).val ∧ (i (2 : Fin 3)).val < 0 + 4096
    omega

theorem rS_disjoint (j j' : Fin 2) (h : j ≠ j') : Disjoint (rS j).set (rS j').set :=
  Rect.disjoint_of_separated _ _ (0 : Fin 3) (by
    have := Fin.val_ne_of_ne h
    show ((1 : ℕ) = 0 ∨ j.val + 1 * (1 - 1) < j'.val) ∨ ((1 : ℕ) = 0 ∨ j'.val + 1 * (1 - 1) < j.val)
    omega)
theorem rS_cover : (Finset.univ : Finset (Fin 2)).biUnion (fun j => (rS j).set) = Finset.univ := by
  ext i
  simp only [Finset.mem_biUnion, Finset.mem_univ, true_and, iff_true]
  have h₁ : (i (1 : Fin 3)).val < 256 := (i (1 : Fin 3)).isLt
  have h₂ : (i (2 : Fin 3)).val < 2048 := (i (2 : Fin 3)).isLt
  refine ⟨i (0 : Fin 3), Rect.mem_set_unit.mpr (Fin.forall_fin_succ.mpr ⟨?_, Fin.forall_fin_two.mpr ⟨?_, ?_⟩⟩)⟩
  · show (i (0 : Fin 3)).val ≤ (i (0 : Fin 3)).val ∧ (i (0 : Fin 3)).val < (i (0 : Fin 3)).val + 1
    omega
  · show 0 ≤ (i (1 : Fin 3)).val ∧ (i (1 : Fin 3)).val < 0 + 256
    omega
  · show 0 ≤ (i (2 : Fin 3)).val ∧ (i (2 : Fin 3)).val < 0 + 2048
    omega

/-- The rows of the result that quarter `p.2` of device `rel c p.1` makes. -/
abbrev rO (c : Dev nD) (p : Fin 4 × Fin 4) : Rect S4096x2048 :=
  Rect.unit (s := S4096x2048) (placeOf (rel c p.1) p.2).1 S256x2048.size (placeOf (rel c p.1) p.2).2

theorem rel_injective : ∀ (c : Dev nD) (a a' : Fin 4), rel c a = rel c a' → a = a' := by decide
theorem rel_surjective : ∀ (c d : Dev nD), ∃ a : Fin 4, rel c a = d := by decide

theorem rO_disjoint (c : Dev nD) (p p' : Fin 4 × Fin 4) (h : p ≠ p') : Disjoint (rO c p).set (rO c p').set :=
  Rect.disjoint_of_separated _ _ (0 : Fin 2) (by
    have h' : 4 * (rel c p.1).val + p.2.val ≠ 4 * (rel c p'.1).val + p'.2.val := fun e => h (Prod.ext
      (rel_injective c _ _ (Fin.ext (by have := p.2.isLt; have := p'.2.isLt; omega)))
      (Fin.ext (by have := p.2.isLt; have := p'.2.isLt; omega)))
    show ((256 : ℕ) = 0 ∨ (1024 * (rel c p.1).val + 256 * p.2.val) + 1 * (256 - 1) < 1024 * (rel c p'.1).val + 256 * p'.2.val)
      ∨ ((256 : ℕ) = 0 ∨ (1024 * (rel c p'.1).val + 256 * p'.2.val) + 1 * (256 - 1) < 1024 * (rel c p.1).val + 256 * p.2.val)
    omega)
theorem rO_cover (c : Dev nD) : (Finset.univ : Finset (Fin 4 × Fin 4)).biUnion (fun p => (rO c p).set) = Finset.univ := by
  ext i
  simp only [Finset.mem_biUnion, Finset.mem_univ, true_and, iff_true]
  have h₀ : (i (0 : Fin 2)).val < 4096 := (i (0 : Fin 2)).isLt
  have h₁ : (i (1 : Fin 2)).val < 2048 := (i (1 : Fin 2)).isLt
  obtain ⟨a, ha⟩ := rel_surjective c ⟨(i (0 : Fin 2)).val / 1024, show _ < 4 by omega⟩
  refine ⟨(a, ⟨(i (0 : Fin 2)).val % 1024 / 256, by omega⟩), Rect.mem_set_unit.mpr (Fin.forall_fin_two.mpr ⟨?_, ?_⟩)⟩
  · show 1024 * (rel c a).val + 256 * ((i (0 : Fin 2)).val % 1024 / 256) ≤ (i (0 : Fin 2)).val
      ∧ (i (0 : Fin 2)).val < 1024 * (rel c a).val + 256 * ((i (0 : Fin 2)).val % 1024 / 256) + 256
    rw [ha]
    show 1024 * ((i (0 : Fin 2)).val / 1024) + 256 * ((i (0 : Fin 2)).val % 1024 / 256) ≤ (i (0 : Fin 2)).val
      ∧ (i (0 : Fin 2)).val < 1024 * ((i (0 : Fin 2)).val / 1024) + 256 * ((i (0 : Fin 2)).val % 1024 / 256) + 256
    omega
  · show 0 ≤ (i (1 : Fin 2)).val ∧ (i (1 : Fin 2)).val < 0 + 2048
    omega

/-! ## Blocks held -/

section Held

variable (c : Dev nD)

theorem eq_of_entails {P R : sProp 𝕄} (h₁ : P ⊢ R) (h₂ : R ⊢ P) : P = R := BI.equiv_iff.mp ⟨h₁, h₂⟩

/-- A block held whole, at some contents. -/
def held {sp : Space} {s : Shape} {e : EltTy} (b : Memref sig .tc sp s e) : sProp 𝕄 := iprop(∃ Y, owns (c : Thread nD τ) b fullShare Y)

theorem held_of {sp : Space} {s : Shape} {e : EltTy} (b : Memref sig .tc sp s e) (Y : s.Idx → Elt F e) :
    (owns (c : Thread nD τ) b fullShare Y : sProp 𝕄) ⊢ held c b := by
  unfold held; iintro H; iexists Y; iexact H

theorem held_whole (b : Ref sig .tc) : (held c (Memref.whole b) : sProp 𝕄) = iprop(∃ f : Buf (Elt F) ((c : Thread nD τ).loc b), ((c : Thread nD τ).loc b) ↦{fullShare} f) := by
  unfold held
  simp only [owns_whole]

/-- A memref squeezed is held at the contents read in the longer shape. -/
theorem owns_squeeze {sp : Space} {s s' : Shape} {e : EltTy} (b : Memref sig .tc sp s e) (h : s.Squeezes s') (q : PosShare TreeShare)
    (X : s'.Idx → Elt F e) :
    (owns (c : Thread nD τ) (b.squeeze s' h) q X : sProp 𝕄)
      = owns (c : Thread nD τ) b q fun i => X ((Shape.reshapeEquiv h.numel_eq).symm i) := by
  unfold owns
  have hs : (b.squeeze s' h).view.set = b.view.set := View.set_reshape _ _
  refine eq_of_entails ?_ ?_
  · iintro ⟨%f, %hf, H⟩; iexists f
    isplitr
    · ipureintro; subst hf; funext i
      show _ = b.view.read (Elt F) f (Shape.reshapeEquiv h.numel_eq ((Shape.reshapeEquiv h.numel_eq).symm i))
      rw [Equiv.apply_symm_apply]
    · rw [hs]; iexact H
  · iintro ⟨%f, %hf, H⟩; iexists f
    isplitr
    · ipureintro; funext j
      show b.view.read (Elt F) f (Shape.reshapeEquiv h.numel_eq j) = _
      rw [hf]
      exact congrArg X (Equiv.symm_apply_apply _ _)
    · rw [hs]; iexact H

theorem held_squeeze {sp : Space} {s s' : Shape} {e : EltTy} (b : Memref sig .tc sp s e) (h : s.Squeezes s') :
    (held c (b.squeeze s' h) : sProp 𝕄) = held c b := by
  unfold held
  refine eq_of_entails ?_ ?_
  · simp only [owns_squeeze]
    iintro ⟨%X, H⟩; iexists fun i => X ((Shape.reshapeEquiv h.numel_eq).symm i); iexact H
  · iintro ⟨%X, H⟩; iexists fun j => X (Shape.reshapeEquiv h.numel_eq j); rw [owns_squeeze]
    simp only [Equiv.apply_symm_apply]
    iexact H

section Family
variable {sp : Space} {s : Shape} {e : EltTy} (b : Memref sig .tc sp s e) {T : Type} [Fintype T] [DecidableEq T] (r : T → Rect s)
  (hr : ∀ t a, (r t).stride a = 1) (hd : ∀ t t', t ≠ t' → Disjoint (r t).set (r t').set)
  (hcov : (Finset.univ : Finset T).biUnion (fun t => (r t).set) = Finset.univ)
include hd hcov

/-- A memref held is each block of a family that covers it held, -/
theorem held_split : (held c b : sProp 𝕄) ⊢ bigSep Finset.univ fun t => held c (b.slice (r t) (hr t)) := by
  unfold held
  iintro ⟨%X, H⟩
  iapply ((owns_rects (c : Thread nD τ) b fullShare r hr hd hcov X).trans
    (BI.bigSep_mono fun t _ => held_of c (b.slice (r t) (hr t)) fun j => X ((r t).emb j)))
  iexact H

/-- and back. -/
theorem held_join [∀ e, Nonempty (Elt F e)] :
    (bigSep Finset.univ fun t => held c (b.slice (r t) (hr t)) : sProp 𝕄) ⊢ held c b := by
  unfold held
  refine (BI.bigSep_exists_pi _ _).trans ?_
  iintro ⟨%Y, H⟩
  iexists Rect.glue r hcov Y
  iapply (owns_of_rects (c : Thread nD τ) b fullShare r hr hd hcov (Rect.glue r hcov Y))
  simp only [Rect.glue_emb r hcov hd Y]
  iexact H

end Family

/-! ## The machine's steps on a block held -/

section Rules
variable {α : Type} {Q : α → sProp (MT nD τ sig Unit (Elt F) ℕ UU ℕ)} {cs : CoreSpace} {s : Shape} {e : EltTy} {b : Memref sig .tc cs s e}

abbrev 𝒱₀ : Variants := Variants.none

/-- The weakest precondition of a program of core `c`. -/
abbrev wpc {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wp_load_block (r : Rect s) (hr : ∀ a, r.stride a = 1) {hl : b.view.LoadsAt r.toLoadRect}
    {k : (r.toLoadRect.shape.Idx → Elt F e) → Prog (TpuEff nD τ sig (Elt F) Λ₀ .tc) α}
    (q : PosShare TreeShare) (X : r.shape.Idx → Elt F e) :
    (owns (c : Thread nD τ) (b.slice r hr) q X : sProp 𝕄)
      ⊢ iprop((owns (c : Thread nD τ) (b.slice r hr) q X -∗ wpc c (k X) Q) -∗ wpc c (.op (.load b r.toLoadRect hl) k) Q) := by
  unfold owns
  iintro ⟨%f, %hf, H⟩ Hk
  iapply (wp_load_rect 𝒱₀ (c : Thread nD τ) none Set.univ (m := b) (r := r) (S := (b.slice r hr).view.set) (f := f) (Finset.Subset.refl _)) $$ H
  iintro H
  rw [show (b.access r).read (Elt F) f = X from hf]
  iapply Hk
  iexists f
  isplitr
  · ipureintro; exact hf
  · iexact H

theorem wp_load_held (r : Rect s) (hr : ∀ a, r.stride a = 1) {hl : b.view.LoadsAt r.toLoadRect}
    {k : (r.toLoadRect.shape.Idx → Elt F e) → Prog (TpuEff nD τ sig (Elt F) Λ₀ .tc) α} :
    (held c (b.slice r hr) : sProp 𝕄)
      ⊢ iprop((∀ X, held c (b.slice r hr) -∗ wpc c (k X) Q) -∗ wpc c (.op (.load b r.toLoadRect hl) k) Q) := by
  unfold held
  iintro ⟨%X, H⟩ Hk
  iapply (wp_load_block c r hr fullShare X) $$ H
  iintro H
  iapply Hk
  iexists X; iexact H

theorem wp_store_held (r : Rect s) (hr : ∀ a, r.stride a = 1) {w : r.shape.Idx → Elt F e}
    {hx : (b.access r).Stores Finset.univ} {hm : (Finset.univ : Finset r.shape.Idx) = Finset.univ ∨ ∀ a, r.stride a = 1}
    {k : PUnit → Prog (TpuEff nD τ sig (Elt F) Λ₀ .tc) α} :
    (held c (b.slice r hr) : sProp 𝕄)
      ⊢ iprop((owns (c : Thread nD τ) (b.slice r hr) fullShare w -∗ wpc c (k ⟨⟩) Q) -∗ wpc c (.op (.store b r w Finset.univ hx hm) k) Q) := by
  unfold held owns
  iintro ⟨%X, %f, %hf, H⟩ Hk
  iapply (wp_store 𝒱₀ (c : Thread nD τ) none Set.univ (m := b) (r := r) (Mk := Finset.univ) (S := (b.slice r hr).view.set) (f := f)
    (Finset.Subset.refl _)) $$ H
  iintro H
  iapply Hk
  iexists _
  isplitr
  · ipureintro; exact View.read_write_univ (v := b.access r) f w
  · iexact H

/-- A copy within the device: its source at a share, its destination held, its semaphore at zero. -/
theorem wp_copy_held {sp sp' : Space} {s : Shape} {e : EltTy} {src : Memref sig .tc sp s e} {dst : Memref sig .tc sp' s e} {sm : SemLoc sig}
    {hsrc : src.view.WordExact} {hdst : dst.view.WordExact} {hsem : DmaTarget.Typed (nD := nD) sp sm (.here dst : DmaTarget nD τ sig Proc.tc sp' s e)}
    {k : PUnit → Prog (TpuEff nD τ sig (Elt F) Λ₀ .tc) α} (q : PosShare TreeShare) (X : s.Idx → Elt F e) (M : ℕ)
    (hM : dst.view.amount sm = M) (hM0 : 0 < M) :
    iprop(owns (c : Thread nD τ) src q X ∗ held c dst ∗ semVal ((c : Thread nD τ), sm) 0)
      ⊢ iprop((Flight (EC (F := F)) (c : Thread nD τ) sm () M iprop(owns (c : Thread nD τ) dst fullShare X ∗ owns (c : Thread nD τ) src q X) -∗ wpc c (k ⟨⟩) Q)
          -∗ wpc c (.op (.enqueueDma src (.here dst) sm hsrc hdst hsem) k) Q) := by
  unfold held
  iintro ⟨H, ⟨%Y, Hd⟩, Hv⟩ Hk
  ihave H := (show (owns (c : Thread nD τ) src q X : sProp 𝕄) ⊢ iprop(∃ f, ⌜src.view.read (Elt F) f = X⌝ ∗ (src.view.loc (c : Thread nD τ) ↦[src.view.set]{q} f)) from .rfl) $$ H
  ihave Hd := (show (owns (c : Thread nD τ) dst fullShare Y : sProp 𝕄) ⊢ iprop(∃ f, ⌜dst.view.read (Elt F) f = Y⌝ ∗ (dst.view.loc (c : Thread nD τ) ↦[dst.view.set]{fullShare} f)) from .rfl) $$ Hd
  icases H with ⟨%f, %hf, H⟩
  icases Hd with ⟨%g, %hg, Hd⟩
  have hD : (iprop((dst.view.loc (c : Thread nD τ) ↦[dst.view.set]{fullShare}
          dst.view.write (Elt F) g ((ReadAs.same : ReadAs (Elt F) s e s e).apply (src.view.read (Elt F) f)) Finset.univ)
        ∗ (src.view.loc (c : Thread nD τ) ↦[src.view.set]{q} f)) : sProp 𝕄)
      ⊢ iprop(owns (c : Thread nD τ) dst fullShare X ∗ owns (c : Thread nD τ) src q X) := by
    unfold owns
    iintro ⟨Hd, H⟩
    isplitl [Hd]
    · iexists _
      isplitr
      rotate_left
      · iexact Hd
      · ipureintro; exact (View.read_write_univ (v := dst.view) _ _).trans hf
    · iexists f
      isplitr
      · ipureintro; exact hf
      · iexact H
  iapply (wp_dmaLocal (EC (F := F)) 𝒱₀ (c : Thread nD τ) none (src := src) (via := .same) (dst := dst) (sm := sm) (Sd := dst.view.set)
    () M hM hM0 (Finset.Subset.refl _)) $$ [H Hd Hv]
  · isplitl [H]; · iexact H
    isplitl [Hd]; · iexact Hd
    iexact Hv
  iintro HF
  iapply Hk
  iapply (Flight_mono (EC (F := F)) (c : Thread nD τ) (sm := sm) (ι := ()) (N := M)
    (D' := iprop(owns (c : Thread nD τ) dst fullShare X ∗ owns (c : Thread nD τ) src q X)) hD) $$ HF

end Rules

end Held

end Cert.RingMatmul

end
-- ==== Proof.Steps.lean ====
/- One rule for each step of the body. -/
module

public import proofs.«01_k».proof.Proof.Blocks
public import Idealize.ShloMosaic.Lib.Pipeline.Value

@[expose] public section

noncomputable section

namespace Cert.RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## What the steps pass on -/

/-- The invariants of all the cells, under the names `K`, and that each has reached its one round. -/
def records (K : Dev nD × CellIx → ℕ) : sProp 𝕄 :=
  bigSep Finset.univ fun ck => iprop(cellInv ER (ringRd m ρ) (K ck) (kcell ck) ∗ reached ER (kcell ck) 0)

instance records_persistent (K : Dev nD × CellIx → ℕ) : BI.Persistent (records m ρ K) := by unfold records; infer_instance

theorem records_at (K : Dev nD × CellIx → ℕ) (c : Dev nD) (k : CellIx) :
    records m ρ K ⊢ iprop(cellInv ER (ringRd m ρ) (K (c, k)) (kcell (c, k)) ∗ reached ER (kcell (c, k)) 0) :=
  BI.bigSep_elim (Finset.mem_univ (c, k))

section Device

variable (c : Dev nD)

/-- Device `c` owes the copies `l`. -/
def due (l : List Leg) : sProp 𝕄 := iprop(∃ W, owes (c : Thread nD τ) (owed c l) W)

/-- Copy `t` may be sent: its destination held, its two duties, the source's cell at its start. -/
def ready (t : Leg) : sProp 𝕄 :=
  iprop(held (tgt t c) (dstM t) ∗ dutyTok ER (sendCell c t) 0 false ∗ dutyTok ER (recvCell (tgt t c) t) 0 false ∗ atPos ER (sendCell c t) 0 ∅ 0)

/-- Copy `t` has been sent, its source not yet given back. -/
def leaving (t : Leg) : sProp 𝕄 := iprop(cred (tallyAt (sendCell c t) () N) ∗ atPos ER (sendCell c t) 0 ∅ 0)

/-- Copy `t` is expected. -/
def coming (t : Leg) : sProp 𝕄 := iprop(cred (tallyAt (recvCell c t) () N) ∗ atPos ER (recvCell c t) 0 ∅ 0)

/-- Quarter `q` of the narrowed rows, whole. -/
def narrowed (q : Fin 4) : sProp 𝕄 := owns (c : Thread nD τ) (quarter x8M q) fullShare (x8 m ρ c q)

/-- Block `b` of the weights as given, and narrowed. -/
def wIn (b : Fin 16) : sProp 𝕄 := owns (c : Thread nD τ) (wBlk b) fullShare fun j => weightsIn m ρ c ((rW b).emb j)
abbrev w8Blk (b : Fin 16) : Memref sig .tc .vmem S256x2048 .fp8e4m3 := w8M.slice (rW b) (fun _ => rfl)
def wOut (b : Fin 16) : sProp 𝕄 := owns (c : Thread nD τ) (w8Blk b) fullShare fun j => w8 m ρ c ((rW b).emb j)
def wAll : sProp 𝕄 := owns (c : Thread nD τ) w8M fullShare (w8 m ρ c)

/-- Slot `s` of the weights' staging buffer free, or filling with block `b`. -/
def wFree (s : Fin 2) : sProp 𝕄 := iprop(held c (slot wstM s) ∗ semVal ((c : Thread nD τ), .dma (wS s)) 0)
def wFilling (b : Fin 16) (s : Fin 2) : sProp 𝕄 :=
  Flight EC (c : Thread nD τ) (.dma (wS s)) () (slot wstM s).view.dmaCredit
    iprop(owns (c : Thread nD τ) (slot wstM s) fullShare (fun j => weightsIn m ρ c ((rW b).emb j)) ∗ wIn m ρ c b)

/-- Slot `s` of the results' staging buffer free, or emptying into the place of quarter `q` of device `d`. -/
def oFree (s : Fin 2) : sProp 𝕄 := iprop(held c (slot stM s) ∗ semVal ((c : Thread nD τ), .dma (outS s)) 0)
def oGoing (s : Fin 2) (d : Dev nD) (q : Fin 4) : sProp 𝕄 :=
  Flight EC (c : Thread nD τ) (.dma (outS s)) () (oBlk (placeOf d q)).view.dmaCredit
    iprop(owns (c : Thread nD τ) (oBlk (placeOf d q)) fullShare (prod m ρ c d q) ∗ owns (c : Thread nD τ) (slot stM s) fullShare (prod m ρ c d q))

/-- The place of quarter `q` of device `d` not yet written, or holding its block of the result. -/
def oTodo (d : Dev nD) (q : Fin 4) : sProp 𝕄 := held c (oBlk (placeOf d q))
def oDone (d : Dev nD) (q : Fin 4) : sProp 𝕄 := owns (c : Thread nD τ) (oBlk (placeOf d q)) fullShare (prod m ρ c d q)

section Rules
variable {Q : PUnit → sProp (MT nD τ sig Unit (Elt F) ℕ UU ℕ)} {k : Core F}

/-! ## The remote copies -/

theorem wp_send (K : Dev nD × CellIx → ℕ) (t : Leg) (l : List Leg) :
    iprop(records m ρ K ∗ owns (c : Thread nD τ) (srcM t) (shr t) (sent m ρ c t) ∗ ready c t ∗ due c (t :: l))
      ⊢ iprop(((leaving c t ∗ due c l) -∗ wpc c k Q) -∗ wpc c (send t (tgt t c) k) Q) := by
  unfold ready leaving due held send
  iintro ⟨#Hrec, Hsrc, ⟨⟨%Y, Hdst⟩, Hts, Htr, Hat⟩, ⟨%W, HO⟩⟩ Hk
  ihave #Hs := (records_at m ρ K c (some (false, t))) $$ Hrec
  ihave #Hr := (records_at m ρ K (tgt t c) (some (true, t))) $$ Hrec
  icases Hs with ⟨#HIs, #Hrs⟩
  icases Hr with ⟨#HIr, #Hrr⟩
  ihave Hsrc := (show (owns (c : Thread nD τ) (srcM t) (shr t) (sent m ρ c t) : sProp 𝕄)
    ⊢ iprop(∃ f, ⌜(srcM t).view.read (Elt F) f = sent m ρ c t⌝ ∗ ((srcM t).view.loc (c : Thread nD τ) ↦[(srcM t).view.set]{shr t} f)) from .rfl) $$ Hsrc
  ihave Hdst := (show (owns (tgt t c : Thread nD τ) (dstM t) fullShare Y : sProp 𝕄)
    ⊢ iprop(∃ f, ⌜(dstM t).view.read (Elt F) f = Y⌝ ∗ ((dstM t).view.loc (tgt t c : Thread nD τ) ↦[(dstM t).view.set]{fullShare} f)) from .rfl) $$ Hdst
  icases Hsrc with ⟨%f, %hf, Hsrc⟩
  icases Hdst with ⟨%g, %hg, Hdst⟩
  have hpay₁ : ((srcM t).view.loc (c : Thread nD τ) ↦[(srcM t).view.set]{shr t} f : sProp 𝕄)
      ⊢ (ringRd m ρ).payload (sendCell c t) 0 false := by
    rw [payload_cell]
    show _ ⊢ owns (c : Thread nD τ) (srcM t) (shr t) (sent m ρ c t)
    rw [← hf]; exact owns_intro (c : Thread nD τ) (srcM t) (shr t) f
  have hpay₂ : ((dstM t).view.loc (tgt t c : Thread nD τ) ↦[(dstM t).view.set]{fullShare}
        (dstM t).view.write (Elt F) g ((srcM t).view.read (Elt F) f) Finset.univ : sProp 𝕄)
      ⊢ (ringRd m ρ).payload (recvCell (tgt t c) t) 0 false := by
    rw [payload_cell]
    show _ ⊢ owns (tgt t c : Thread nD τ) (dstM t) fullShare (got m ρ (tgt t c) t)
    have e : (dstM t).view.read (Elt F) ((dstM t).view.write (Elt F) g ((srcM t).view.read (Elt F) f) Finset.univ) = got m ρ (tgt t c) t := by
      rw [View.read_write_univ, hf, got_tgt]
    rw [← e]; exact owns_intro (tgt t c : Thread nD τ) (dstM t) fullShare _
  have hd₁ : false ∈ (ringRd m ρ).duties ((c : Thread nD τ), .dma (sendS t)) 0 := by
    have := duties_cell m ρ c (some (false, t))
    exact this ▸ Finset.mem_singleton_self false
  have hd₂ : false ∈ (ringRd m ρ).duties ((tgt t c : Thread nD τ), .dma (recvS t)) 0 := by
    have := duties_cell m ρ (tgt t c) (some (true, t))
    exact this ▸ Finset.mem_singleton_self false
  have hk₁ : (ringRd m ρ).amount ((c : Thread nD τ), .dma (sendS t)) 0 false = N := amount_cell m ρ c (some (false, t)) false
  have hk₂ : (ringRd m ρ).amount ((tgt t c : Thread nD τ), .dma (recvS t)) 0 false = N := amount_cell m ρ (tgt t c) (some (true, t)) false
  have hN : (dstM t).view.amount (.dma (recvS t)) = N := credit_dst t
  iapply (Rounds.wp_send_pointsTo 𝒱₀ ER (ringRd m ρ) (c : Thread nD τ) none (c' := (tgt t c : Thread nD τ)) (src := srcM t) (dst := dstM t)
    (sS := .dma (sendS t)) (sem := .dma (recvS t)) (fs := f) (q := shr t) (κ₁ := K (c, some (false, t))) (κ₂ := K (tgt t c, some (true, t)))
    (r₁ := 0) (r₂ := 0) (d₁ := false) (d₂ := false) (fd := g) hd₁ hd₂ () () N hN hk₁ hk₂ (owed c l) (O₀ := owed c (t :: l)) rfl (W := W)
    hpay₁ hpay₂ (hr := Topo.routes_tc c (tgt t c))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hc, HO⟩
  iapply Hk
  isplitl [Hc Hat]
  · isplitl [Hc]; · iexact Hc
    iexact Hat
  iexists W; iexact HO

theorem wp_waitSend (K : Dev nD × CellIx → ℕ) (t : Leg) :
    iprop(records m ρ K ∗ leaving c t ∗ due c [])
      ⊢ iprop(((owns (c : Thread nD τ) (srcM t) (shr t) (sent m ρ c t) ∗ semVal (sendCell c t) 0 ∗ due c []) -∗ wpc c k Q)
        -∗ wpc c (waitSend t k) Q) := by
  unfold leaving due waitSend
  iintro ⟨#Hrec, ⟨Hc, Hat⟩, ⟨%W, HO⟩⟩ Hk
  ihave #Hs := (records_at m ρ K c (some (false, t))) $$ Hrec
  icases Hs with ⟨#HIs, -⟩
  iapply (Rounds.wp_wait_rest_token 𝒱₀ ER (ringRd m ρ) (c : Thread nD τ) none (κ := K (c, some (false, t)))
      (wpE_waitDma2_eq 𝒱₀ (c : Thread nD τ) none Set.univ) (Set.mem_univ _) () (O := owed c []) (W := W) (R := 0) (m := 0) (T := ∅)
      (by rw [Nat.zero_add, credit_src]; exact (expect_copy m ρ c (false, t)).symm)) $$ [Hc HO Hat]
  · isplitr; · iexact HIs
    isplitl [Hc]; · rw [credit_src]; iexact Hc
    isplitl [HO]; · iexact HO
    isplitr; · rw [show owed c [] = 0 from rfl, MayWait_zero]; iempintro
    iexact Hat
  iintro ⟨HO, Hat, -, Hpay⟩
  ihave Hpay := (show bigSep ((ringRd m ρ).duties ((c : Thread nD τ), .dma (sendS t)) 0 \ ∅)
      (fun d => (ringRd m ρ).payload ((c : Thread nD τ), .dma (sendS t)) 0 d)
    ⊢ owns (c : Thread nD τ) (srcM t) (shr t) (sent m ρ c t) from Entails.of_eq (rest_copy m ρ c (false, t))) $$ Hpay
  imod (Rounds.cell_close ER (ringRd m ρ) (Set.mem_univ (K (c, some (false, t)))) (fun h => h) (R := 0 + 1) (duties_later m ρ (sendCell c t))) $$ [Hat] with Hz
  · isplitr; · iexact HIs
    iexact Hat
  iapply Hk
  isplitl [Hpay]; · iexact Hpay
  isplitl [Hz]; · iexact Hz
  iexists _; iexact HO

theorem wp_waitRecv (K : Dev nD × CellIx → ℕ) (t : Leg) (l : List Leg)
    (hl : ∀ t' ∈ l, cellLev (some (true, t)) < cellLev (some (true, t'))) :
    iprop(records m ρ K ∗ levAts L lv ∗ coming c t ∗ due c l)
      ⊢ iprop(((owns (c : Thread nD τ) (dstM t) fullShare (got m ρ c t) ∗ semVal (recvCell c t) 0 ∗ due c l) -∗ wpc c k Q)
        -∗ wpc c (waitRecv t k) Q) := by
  unfold coming due waitRecv
  iintro ⟨#Hrec, #Hlev, ⟨Hc, Hat⟩, ⟨%W, HO⟩⟩ Hk
  ihave #Hs := (records_at m ρ K c (some (true, t))) $$ Hrec
  icases Hs with ⟨#HIs, -⟩
  iapply (Rounds.wp_wait_rest_token 𝒱₀ ER (ringRd m ρ) (c : Thread nD τ) none (κ := K (c, some (true, t)))
      (wpE_waitDma2_eq 𝒱₀ (c : Thread nD τ) none Set.univ) (Set.mem_univ _) () (O := owed c l) (W := W) (R := 0) (m := 0) (T := ∅)
      (by rw [Nat.zero_add, credit_dst]; exact (expect_copy m ρ c (true, t)).symm)) $$ [Hc HO Hat]
  · isplitr; · iexact HIs
    isplitl [Hc]; · rw [credit_dst]; iexact Hc
    isplitl [HO]; · iexact HO
    isplitr
    · iapply (mayWait_owed c (csem (some (true, t))) (cellLev (some (true, t))) l (le_of_eq (lv_cell c (some (true, t)) ())) hl)
      iexact Hlev
    iexact Hat
  iintro ⟨HO, Hat, -, Hpay⟩
  ihave Hpay := (show bigSep ((ringRd m ρ).duties ((c : Thread nD τ), .dma (recvS t)) 0 \ ∅)
      (fun d => (ringRd m ρ).payload ((c : Thread nD τ), .dma (recvS t)) 0 d)
    ⊢ owns (c : Thread nD τ) (dstM t) fullShare (got m ρ c t) from Entails.of_eq (rest_copy m ρ c (true, t))) $$ Hpay
  imod (Rounds.cell_close ER (ringRd m ρ) (Set.mem_univ (K (c, some (true, t)))) (fun h => h) (R := 0 + 1) (duties_later m ρ (recvCell c t))) $$ [Hat] with Hz
  · isplitr; · iexact HIs
    iexact Hat
  iapply Hk
  isplitl [Hpay]; · iexact Hpay
  isplitl [Hz]; · iexact Hz
  iexists _; iexact HO

/-! ## The rows -/

theorem wp_castX (q : Fin 4) :
    iprop(owns (c : Thread nD τ) xM fullShare (rowsIn m ρ c) ∗ held c (quarter x8M q))
      ⊢ iprop(((owns (c : Thread nD τ) xM fullShare (rowsIn m ρ c) ∗ narrowed m ρ c q) -∗ wpc c k Q) -∗ wpc c (castX q k) Q) := by
  unfold castX narrowed
  rw [owns_whole]
  iintro ⟨Hx, H8⟩ Hk
  iapply (wp_load 𝒱₀ (c : Thread nD τ) none Set.univ (m := xM) (Finset.subset_univ _)) $$ Hx
  iintro Hx
  iapply (wp_load_held c (b := x8M) (rX q) (fun _ => rfl)) $$ H8
  iintro %_ H8
  iapply (wp_store_held c (b := x8M) (rX q) (fun _ => rfl)) $$ H8
  iintro H8
  iapply Hk
  isplitl [Hx]; · iexact Hx
  iexact H8

/-! ## The weights -/

theorem outS_not_cell : ∀ (s : Fin 2) (k : CellIx), csem k ≠ .dma (outS s) := by decide +kernel
theorem wS_not_cell : ∀ (s : Fin 2) (k : CellIx), csem k ≠ .dma (wS s) := by decide +kernel

theorem lv_local (q : DmaSem sig) (h : ∀ k, csem k ≠ .dma q) : lv ((c : Thread nD τ), .dma q) () ≤ 0 := by
  show (kind (.dma q)).elim 0 cellLev ≤ 0
  rw [kind_none h]; exact Nat.le_refl 0

theorem wp_wStart (b : Fin 16) (s : Fin 2) :
    iprop(wIn m ρ c b ∗ wFree c s) ⊢ iprop((wFilling m ρ c b s -∗ wpc c k Q) -∗ wpc c (wStart b s k) Q) := by
  unfold wFree wFilling wStart wIn
  iintro ⟨Hw, Hs, Hv⟩ Hk
  iapply (wp_copy_held c (src := wBlk b) (dst := slot wstM s) fullShare (fun j => weightsIn m ρ c ((rW b).emb j))
    (slot wstM s).view.dmaCredit rfl (View.dmaCredit_pos _ (by decide))) $$ [Hw Hs Hv]
  · isplitl [Hw]; · iexact Hw
    isplitl [Hs]; · iexact Hs
    iexact Hv
  iintro HF
  iapply Hk
  iexact HF

/-- A block narrowed is the block of the weights narrowed. -/
theorem narrow_block (b : Fin 16) :
    (k0_pay6 (F := F) fun i => weightsIn m ρ c ((rW b).emb ((Shape.reshapeEquiv (squeezes_S1x256x2048_S256x2048).numel_eq).symm i)))
      = fun j => w8 m ρ c ((rW b).emb j) := by
  funext j
  unfold k0_pay6 w8 truncf
  show FloatOps.truncf _ _ (weightsIn m ρ c ((rW b).emb ((Shape.reshapeEquiv (squeezes_S1x256x2048_S256x2048).numel_eq).symm
    (Shape.reshapeEquiv _ (Shape.reshapeEquiv _ j))))) = _
  rw [Shape.reshapeEquiv_symm, Shape.reshapeEquiv_reshapeEquiv, Shape.reshapeEquiv_reshapeEquiv, Shape.reshapeEquiv_self]

theorem wp_wTake (b : Fin 16) (s : Fin 2) (l : List Leg) :
    iprop(levAts L lv ∗ wFilling m ρ c b s ∗ held c (w8Blk b) ∗ due c l)
      ⊢ iprop(((wIn m ρ c b ∗ wOut m ρ c b ∗ wFree c s ∗ due c l) -∗ wpc c k Q) -∗ wpc c (wTake b s k) Q) := by
  unfold wFilling wTake due wFree wOut
  iintro ⟨#Hlev, HF, H8, ⟨%W, HO⟩⟩ Hk
  iapply (wp_waitLocalO (EC (F := F)) 𝒱₀ (c : Thread nD τ) none (sem := wS s) () (rfl : (slot wstM s).view.dmaCredit = _)
    (O := owed c l) (W := W)) $$ [HF HO]
  · isplitl [HF]; · iexact HF
    isplitl [HO]; · iexact HO
    iapply (mayWait_owed c (.dma (wS s)) 0 l (lv_local c (wS s) (wS_not_cell s)) (fun t _ => lev_pos t))
    iexact Hlev
  iintro ⟨⟨Hs, Hw⟩, Hv, HO⟩
  ihave Hs := (Entails.of_eq (owns_squeeze c (wstM.slice (rS s) (fun _ => rfl)) squeezes_S1x256x2048_S256x2048 fullShare
    (fun j => weightsIn m ρ c ((rW b).emb j)))) $$ Hs
  iapply (wp_load_block c (b := wstM) (rS s) (fun _ => rfl) fullShare _) $$ Hs
  iintro Hs
  iapply (wp_load_held c (b := w8M) (rW b) (fun _ => rfl)) $$ H8
  iintro %_ H8
  iapply (wp_store_held c (b := w8M) (rW b) (fun _ => rfl)) $$ H8
  iintro H8
  ihave H8 := (Entails.of_eq (congrArg (owns (c : Thread nD τ) (w8Blk b) fullShare) (narrow_block m ρ c b))) $$ H8
  iapply Hk
  isplitl [Hw]; · iexact Hw
  isplitl [H8]; · iexact H8
  isplitl [Hs Hv]
  · isplitl [Hs]
    · rw [held_squeeze]
      iapply (held_of c (wstM.slice (rS s) (fun _ => rfl)) _) $$ Hs
    · iexact Hv
  iexists _; iexact HO

/-! ## The products -/

theorem wp_outWait (s : Fin 2) (d : Dev nD) (q : Fin 4) (l : List Leg) :
    iprop(levAts L lv ∗ oGoing m ρ c s d q ∗ due c l)
      ⊢ iprop(((oDone m ρ c d q ∗ oFree c s ∗ due c l) -∗ wpc c k Q) -∗ wpc c (outWait s (placeOf d q) k) Q) := by
  unfold oGoing oDone oFree due outWait
  iintro ⟨#Hlev, HF, ⟨%W, HO⟩⟩ Hk
  iapply (wp_waitLocalO (EC (F := F)) 𝒱₀ (c : Thread nD τ) none (sem := outS s) () (rfl : (oBlk (placeOf d q)).view.dmaCredit = _)
    (O := owed c l) (W := W)) $$ [HF HO]
  · isplitl [HF]; · iexact HF
    isplitl [HO]; · iexact HO
    iapply (mayWait_owed c (.dma (outS s)) 0 l (lv_local c (outS s) (outS_not_cell s)) (fun t _ => lev_pos t))
    iexact Hlev
  iintro ⟨⟨Ho, Hs⟩, Hv, HO⟩
  iapply Hk
  isplitl [Ho]; · iexact Ho
  isplitl [Hs Hv]
  · isplitl [Hs]
    · iapply (held_of c (slot stM s) _) $$ Hs
    · iexact Hv
  iexists _; iexact HO

theorem hz : (![0, 0] : Fin 2 → Nat) = fun _ => 0 := funext fun a => by fin_cases a <;> rfl

/-- The block stored in the slot is the block of the result. -/
theorem stored_block (d : Dev nD) (q : Fin 4) :
    k0_pay27 (scale m ρ c) (x8 m ρ d q) (w8 m ρ c)
      = fun i => prod m ρ c d q ((Shape.reshapeEquiv (squeezes_S1x256x2048_S256x2048).numel_eq).symm i) := by
  funext i
  rw [Shape.reshapeEquiv_symm]
  rfl

theorem wp_rows (s : Fin 2) (d : Dev nD) (q : Fin 4) :
    iprop(wAll m ρ c ∗ oFree c s ∗ oTodo c d q)
      ⊢ iprop(((wAll m ρ c ∗ oGoing m ρ c s d q) -∗ wpc c k Q) -∗ wpc c (rows (scale m ρ c) (x8 m ρ d q) s (placeOf d q) k) Q) := by
  unfold wAll oFree oTodo oGoing rows
  rw [owns_whole]
  iintro ⟨Hw, ⟨Hs, Hv⟩, Ho⟩ Hk
  iapply (wp_load 𝒱₀ (c : Thread nD τ) none Set.univ (m := w8M) (Finset.subset_univ _)) $$ Hw
  iintro Hw
  rw [show View.readAt (Elt F) w8M.view rWW.toLoadRect (w8 m ρ c) = w8 m ρ c from
    Memref.readAt_unit_zero (Elt F) cc0_scratch1 hz _ _]
  ihave Hs := (Entails.of_eq (held_squeeze c (stM.slice (rS s) (fun _ => rfl)) squeezes_S1x256x2048_S256x2048)) $$ Hs
  iapply (wp_load_held c (b := stM) (rS s) (fun _ => rfl)) $$ Hs
  iintro %_ Hs
  iapply (wp_store_held c (b := stM) (rS s) (fun _ => rfl)) $$ Hs
  iintro Hs
  ihave Hs := (Entails.of_eq ((congrArg (owns (c : Thread nD τ) (stM.slice (rS s) (fun _ => rfl)) fullShare) (stored_block m ρ c d q)).trans
    (owns_squeeze c (stM.slice (rS s) (fun _ => rfl)) squeezes_S1x256x2048_S256x2048 fullShare (prod m ρ c d q)).symm)) $$ Hs
  iapply (wp_copy_held c (src := slot stM s) (dst := oBlk (placeOf d q)) fullShare (prod m ρ c d q)
    (oBlk (placeOf d q)).view.dmaCredit rfl (View.dmaCredit_pos _ (show 0 < S256x2048.numel by decide))) $$ [Hs Ho Hv]
  · isplitl [Hs]; · iexact Hs
    isplitl [Ho]; · iexact Ho
    iexact Hv
  iintro HF
  iapply Hk
  isplitl [Hw]; · iexact Hw
  iexact HF

theorem wp_rowsQ (b : Memref sig .tc .vmem S1024x4096 .fp8e4m3) (sh : PosShare TreeShare) (qb : Fin 4) (s : Fin 2) (d : Dev nD) (q : Fin 4) :
    iprop(owns (c : Thread nD τ) (quarter b qb) sh (x8 m ρ d q) ∗ wAll m ρ c ∗ oFree c s ∗ oTodo c d q)
      ⊢ iprop(((owns (c : Thread nD τ) (quarter b qb) sh (x8 m ρ d q) ∗ wAll m ρ c ∗ oGoing m ρ c s d q) -∗ wpc c k Q)
        -∗ wpc c (rowsQ (scale m ρ c) b qb s (placeOf d q) k) Q) := by
  unfold rowsQ
  iintro ⟨Hb, H⟩ Hk
  iapply (wp_load_block c (b := b) (rX qb) (fun _ => rfl) sh (x8 m ρ d q)) $$ Hb
  iintro Hb
  iapply (wp_rows m ρ c s d q) $$ H
  iintro H
  iapply Hk
  isplitl [Hb]; · iexact Hb
  iexact H

theorem wp_rowsH (b : Memref sig .tc .vmem S2x256x4096 .fp8e4m3) (j : Fin 2) (s : Fin 2) (d : Dev nD) (q : Fin 4) :
    iprop(owns (c : Thread nD τ) (half b j) fullShare (x8 m ρ d q) ∗ wAll m ρ c ∗ oFree c s ∗ oTodo c d q)
      ⊢ iprop(((owns (c : Thread nD τ) (half b j) fullShare (x8 m ρ d q) ∗ wAll m ρ c ∗ oGoing m ρ c s d q) -∗ wpc c k Q)
        -∗ wpc c (rowsH (scale m ρ c) b j s (placeOf d q) k) Q) := by
  unfold rowsH
  iintro ⟨Hb, H⟩ Hk
  ihave Hb := (show (owns (c : Thread nD τ) (half b j) fullShare (x8 m ρ d q) : sProp 𝕄)
    ⊢ iprop(∃ f, ⌜(half b j).view.read (Elt F) f = x8 m ρ d q⌝ ∗ ((half b j).view.loc (c : Thread nD τ) ↦[(half b j).view.set]{fullShare} f)) from .rfl) $$ Hb
  icases Hb with ⟨%f, %hf, Hb⟩
  iapply (wp_load_rect 𝒱₀ (c : Thread nD τ) none Set.univ (m := half b j) (r := rQ) (S := (half b j).view.set) (f := f) (View.set_slice_subset _ _)) $$ Hb
  iintro Hb
  have hread : ((half b j).access rQ).read (Elt F) f = x8 m ρ d q := by
    rw [← hf]; funext i
    show (half b j).view.read (Elt F) f (rQ.emb i) = _
    refine congrArg _ (funext fun a => Fin.ext ?_)
    have := Rect.emb_apply (r := rQ) i a
    fin_cases a
    · show 0 + 1 * _ = _; omega
    · show 0 + 1 * _ = _; omega
  rw [hread]
  iapply (wp_rows m ρ c s d q) $$ H
  iintro H
  iapply Hk
  isplitl [Hb]
  · iapply (show ((half b j).view.loc (c : Thread nD τ) ↦[(half b j).view.set]{fullShare} f : sProp 𝕄)
      ⊢ owns (c : Thread nD τ) (half b j) fullShare (x8 m ρ d q) by rw [← hf]; exact owns_intro (c : Thread nD τ) (half b j) fullShare f)
    iexact Hb
  iexact H

end Rules

end Device

end Cert.RingMatmul

end
-- ==== Proof.Body.lean ====
/- The parts of the body, and the body. -/
module

public import proofs.«01_k».proof.Proof.Steps
public import Idealize.ShloMosaic.Lib.Pipeline.BigSepL

@[expose] public section

noncomputable section

namespace Cert.RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## Families written out -/

theorem sep_two (Φ : Fin 2 → sProp 𝕄) : bigSep Finset.univ Φ = iprop(Φ 0 ∗ Φ 1) :=
  bigSep_univ_eq_bigSepL [0, 1] (by decide) (by decide) Φ
theorem sep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem sep_legs (Φ : Leg → sProp 𝕄) : bigSep Finset.univ Φ
    = iprop((Φ (.right 0) ∗ Φ (.right 1) ∗ Φ (.right 2) ∗ Φ (.right 3)) ∗ (Φ (.left 0) ∗ Φ (.left 1) ∗ Φ (.left 2) ∗ Φ (.left 3))
      ∗ (Φ (.fwdR 0) ∗ Φ (.fwdR 1)) ∗ (Φ (.fwdL 0) ∗ Φ (.fwdL 1))) := by
  rw [bigSep_univ_eq_bigSepL ([.right 0, .right 1, .right 2, .right 3] ++ ([.left 0, .left 1, .left 2, .left 3] ++ ([.fwdR 0, .fwdR 1] ++ [.fwdL 0, .fwdL 1])))
    (by decide) (by decide), bigSepL_append, bigSepL_append, bigSepL_append]
  rfl
theorem sep_pairs (Φ : Fin 4 × Fin 4 → sProp 𝕄) : bigSep Finset.univ Φ
    = iprop((Φ (0, 0) ∗ Φ (0, 1) ∗ Φ (0, 2) ∗ Φ (0, 3)) ∗ (Φ (1, 0) ∗ Φ (1, 1) ∗ Φ (1, 2) ∗ Φ (1, 3))
      ∗ (Φ (2, 0) ∗ Φ (2, 1) ∗ Φ (2, 2) ∗ Φ (2, 3)) ∗ (Φ (3, 0) ∗ Φ (3, 1) ∗ Φ (3, 2) ∗ Φ (3, 3))) := by
  rw [bigSep_univ_prod, sep_four, sep_four, sep_four, sep_four, sep_four]

/-- The blocks of the weights after the first, in the order they are taken. -/
abbrev wRest : List (Fin 16) := [1, 2, 3, 4, 5, 6, 7, 8, 9, 10, 11, 12, 13, 14, 15]
theorem sep_blocks (Φ : Fin 16 → sProp 𝕄) : bigSep Finset.univ Φ = bigSepL (0 :: wRest) Φ :=
  bigSep_univ_eq_bigSepL (0 :: wRest) (by decide) (by decide) Φ

section Device

variable (c : Dev nD)

section Rules
variable {Q : PUnit → sProp (MT nD τ sig Unit (Elt F) ℕ UU ℕ)} {k : Core F}

/-! ## The beginning -/

/-- The buffers the neighbour on side `b` writes into are what it is paid with. -/
theorem barPay_own (b : Bool) :
    (barPay (side (!b) c) b : sProp 𝕄) = bigSep (Finset.univ.filter fun t : Leg => t.goesRight = b) fun t => held c (dstM t) := by
  have e : side b (side (!b) c) = c := by
    have := side_side (!b) c
    rwa [Bool.not_not] at this
  unfold barPay held
  rw [e]

theorem give_own : (bigSep Finset.univ fun t : Leg => held c (dstM t) : sProp 𝕄) ⊢ iprop(barPay (nxt c) false ∗ barPay (prv c) true) := by
  have e₁ := barPay_own (F := F) c false
  have e₂ := barPay_own (F := F) c true
  have e₃ : (Finset.univ.filter fun t : Leg => t.goesRight = true) = Finset.univ.filter fun t : Leg => ¬ t.goesRight = false := by
    simp only [Bool.not_eq_false]
  rw [BI.bigSep_filter_split (Finset.univ : Finset Leg) (fun t => t.goesRight = false), ← e₃, ← e₁, ← e₂]
  exact .rfl

/-- The buffers lent, what the handshake on the barrier takes. -/
def atStart : sProp 𝕄 :=
  iprop((bigSep Finset.univ fun t : Leg => held c (dstM t)) ∗ dutyTok ER (barCell (nxt c)) 0 false ∗ dutyTok ER (barCell (prv c)) 0 true
    ∗ cred (tallyAt (barCell c) () 2) ∗ atPos ER (barCell c) 0 ∅ 0 ∗ (∃ W, owes (c : Thread nD τ) (O₀ c) W))

def scales : sProp 𝕄 := iprop(owns (c : Thread nD τ) sxM fullShare (scaleX m ρ c) ∗ owns (c : Thread nD τ) swM fullShare (scaleW m ρ c))

theorem hz1 : (![0] : Fin 1 → Nat) = fun _ => 0 := funext fun a => by fin_cases a; rfl

theorem wp_begin (K : Dev nD × CellIx → ℕ) {k : F .f32 → Core F} :
    iprop(records m ρ K ∗ levAts L lv ∗ atStart c ∗ scales m ρ c)
      ⊢ iprop((((bigSep Finset.univ fun t : Leg => held (tgt t c) (dstM t)) ∗ semVal (barCell c) 0 ∗ due c sends ∗ scales m ρ c)
          -∗ wpc c (k (scale m ρ c)) Q)
        -∗ wpc c (begin (nxt c) (prv c) k) Q) := by
  unfold atStart scales begin
  rw [owns_whole, owns_whole]
  iintro ⟨#Hrec, #Hlev, ⟨Hown, HtN, HtP, Hc, Hat, ⟨%W, HO⟩⟩, Hsx, Hsw⟩ Hk
  ihave #HN := (records_at m ρ K (nxt c) none) $$ Hrec
  ihave #HP := (records_at m ρ K (prv c) none) $$ Hrec
  ihave #HC := (records_at m ρ K c none) $$ Hrec
  icases HN with ⟨#HIN, #HrN⟩
  icases HP with ⟨#HIP, #HrP⟩
  icases HC with ⟨#HIC, -⟩
  ihave Hown := (give_own c) $$ Hown
  icases Hown with ⟨HpN, HpP⟩
  have hdP : true ∈ (ringRd m ρ).duties ((prv c : Thread nD τ), .reg barS) 0 := by
    have := duties_cell m ρ (prv c) none
    exact this ▸ Finset.mem_univ true
  have hdN : false ∈ (ringRd m ρ).duties ((nxt c : Thread nD τ), .reg barS) 0 := by
    have := duties_cell m ρ (nxt c) none
    exact this ▸ Finset.mem_univ false
  have haP : (ringRd m ρ).amount ((prv c : Thread nD τ), .reg barS) 0 true = 1 := amount_cell m ρ (prv c) none true
  have haN : (ringRd m ρ).amount ((nxt c : Thread nD τ), .reg barS) 0 false = 1 := amount_cell m ρ (nxt c) none false
  ihave HpP := (show (barPay (prv c) true : sProp 𝕄) ⊢ (ringRd m ρ).payload ((prv c : Thread nD τ), .reg barS) 0 true from
    Entails.of_eq (payload_cell m ρ (prv c) none true).symm) $$ HpP
  ihave HpN := (show (barPay (nxt c) false : sProp 𝕄) ⊢ (ringRd m ρ).payload ((nxt c : Thread nD τ), .reg barS) 0 false from
    Entails.of_eq (payload_cell m ρ (nxt c) none false).symm) $$ HpN
  iapply (Rounds.wp_signal 𝒱₀ ER (ringRd m ρ) (c : Thread nD τ) none (dst := (prv c : Thread nD τ)) (sem := barS) (r := 0) (κ := K (prv c, none))
      (d := true) hdP (haP.trans (by decide)) () (O₀ := O₀ c) (O₁ c) rfl (W := W) (hr := Topo.routes_tc c (prv c))) $$ [HO HtP HpP]
  · isplitr; · iexact HIP
    isplitl [HO]; · iexact HO
    isplitl [HtP]; · iexact HtP
    isplitl [HpP]; · iexact HpP
    iexact HrP
  iintro HO
  iapply (Rounds.wp_signal 𝒱₀ ER (ringRd m ρ) (c : Thread nD τ) none (dst := (nxt c : Thread nD τ)) (sem := barS) (r := 0) (κ := K (nxt c, none))
      (d := false) hdN (haN.trans (by decide)) () (O₀ := O₁ c) (owed c sends) rfl (W := W) (hr := Topo.routes_tc c (nxt c))) $$ [HO HtN HpN]
  · isplitr; · iexact HIN
    isplitl [HO]; · iexact HO
    isplitl [HtN]; · iexact HtN
    isplitl [HpN]; · iexact HpN
    iexact HrN
  iintro HO
  iapply (Rounds.wp_wait_rest_token 𝒱₀ ER (ringRd m ρ) (c : Thread nD τ) none (κ := K (c, none))
      (wpE_semWait_eq 𝒱₀ (c : Thread nD τ) none Set.univ) (Set.mem_univ _) () (O := owed c sends) (W := W) (R := 0) (m := 0) (T := ∅)
      (by have e : (ringRd m ρ).expect ((c : Thread nD τ), .reg barS) 0 = 2 := expect_bar m ρ c
          rw [Nat.zero_add, e]; decide)) $$ [Hc HO Hat]
  · isplitr; · iexact HIC
    isplitl [Hc]; · iexact Hc
    isplitl [HO]; · iexact HO
    isplitr
    · iapply (mayWait_owed c (.reg barS) 1 sends (le_of_eq (lv_cell c none ())) (by decide))
      iexact Hlev
    iexact Hat
  iintro ⟨HO, Hat, -, Hpay⟩
  ihave Hpay := (show bigSep ((ringRd m ρ).duties ((c : Thread nD τ), .reg barS) 0 \ ∅)
      (fun d => (ringRd m ρ).payload ((c : Thread nD τ), .reg barS) 0 d)
    ⊢ bigSep Finset.univ fun t : Leg => held (tgt t c) (dstM t) from Entails.of_eq (rest_bar m ρ c)) $$ Hpay
  imod (Rounds.cell_close ER (ringRd m ρ) (Set.mem_univ (K (c, none))) (fun h => h) (R := 0 + 1) (duties_later m ρ (barCell c))) $$ [Hat] with Hz
  · isplitr; · iexact HIC
    iexact Hat
  iapply (wp_load 𝒱₀ (c : Thread nD τ) none Set.univ (m := sxM) (Finset.subset_univ _)) $$ Hsx
  iintro Hsx
  iapply (wp_load 𝒱₀ (c : Thread nD τ) none Set.univ (m := swM) (Finset.subset_univ _)) $$ Hsw
  iintro Hsw
  rw [show View.readAt (Elt F) sxM.view (Rect.unit (s := S1) ![0] S1.size inb_S1_S1_0).toLoadRect (scaleX m ρ c) = scaleX m ρ c from
      Memref.readAt_unit_zero (Elt F) cc0_stg1_0 hz1 _ _,
    show View.readAt (Elt F) swM.view (Rect.unit (s := S1) ![0] S1.size inb_S1_S1_0).toLoadRect (scaleW m ρ c) = scaleW m ρ c from
      Memref.readAt_unit_zero (Elt F) cc0_stg2_0 hz1 _ _]
  iapply Hk
  isplitl [Hpay]; · iexact Hpay
  isplitl [Hz]; · iexact Hz
  isplitl [HO]
  · unfold due; iexists _; iexact HO
  isplitl [Hsx]; · iexact Hsx
  iexact Hsw

/-! ## The rows sent -/

/-- The share of the narrowed rows the products are made under. -/
def kept (q : Fin 4) : sProp 𝕄 := owns (c : Thread nD τ) (quarter x8M q) fullShare.left (x8 m ρ c q)

theorem wp_quarterOut (K : Dev nD × CellIx → ℕ) (q : Fin 4) (l : List Leg) :
    iprop(records m ρ K ∗ owns (c : Thread nD τ) xM fullShare (rowsIn m ρ c) ∗ held c (quarter x8M q)
        ∗ ready c (.right q) ∗ ready c (.left q) ∗ due c (.right q :: .left q :: l))
      ⊢ iprop(((owns (c : Thread nD τ) xM fullShare (rowsIn m ρ c) ∗ kept m ρ c q ∗ leaving c (.right q) ∗ leaving c (.left q) ∗ due c l) -∗ wpc c k Q)
        -∗ wpc c (quarterOut (nxt c) (prv c) q k) Q) := by
  unfold quarterOut kept
  iintro ⟨#Hrec, Hx, H8, Hr, Hl, HO⟩ Hk
  iapply (wp_castX m ρ c q) $$ [Hx H8]
  · isplitl [Hx]; · iexact Hx
    iexact H8
  iintro ⟨Hx, H8⟩
  unfold narrowed
  ihave H8 := ((owns_halves (c : Thread nD τ) (quarter x8M q) fullShare (x8 m ρ c q)).1) $$ H8
  icases H8 with ⟨Hkept, H8⟩
  ihave H8 := ((owns_halves (c : Thread nD τ) (quarter x8M q) fullShare.right (x8 m ρ c q)).1) $$ H8
  icases H8 with ⟨H8r, H8l⟩
  iapply (wp_send m ρ c K (.right q) (.left q :: l)) $$ [H8r Hr HO]
  · isplitr; · iexact Hrec
    isplitl [H8r]; · iexact H8r
    isplitl [Hr]; · iexact Hr
    iexact HO
  iintro ⟨Hr, HO⟩
  iapply (wp_send m ρ c K (.left q) l) $$ [H8l Hl HO]
  · isplitr; · iexact Hrec
    isplitl [H8l]; · iexact H8l
    isplitl [Hl]; · iexact Hl
    iexact HO
  iintro ⟨Hl, HO⟩
  iapply Hk
  isplitl [Hx]; · iexact Hx
  isplitl [Hkept]; · iexact Hkept
  isplitl [Hr]; · iexact Hr
  isplitl [Hl]; · iexact Hl
  iexact HO

/-! ## The weights -/

theorem wFree_both (s : Fin 2) : iprop(wFree (F := F) c s ∗ wFree c (other s)) ⊢ iprop(wFree c 0 ∗ wFree c 1) := by
  have h : s = 0 ∨ s = 1 := by revert s; decide
  rcases h with rfl | rfl
  · exact .rfl
  · iintro ⟨H1, H0⟩
    isplitl [H0]; · iexact H0
    iexact H1

theorem wp_takeAll (g : List Leg) : ∀ (l : List (Fin 16)) (b : Fin 16) (s : Fin 2),
    iprop(levAts L lv ∗ wFilling m ρ c b s ∗ wFree c (other s) ∗ bigSepL (b :: l) (fun b => held c (w8Blk b)) ∗ bigSepL l (wIn m ρ c) ∗ due c g)
      ⊢ iprop(((bigSepL (b :: l) (fun b => iprop(wIn m ρ c b ∗ wOut m ρ c b)) ∗ wFree c 0 ∗ wFree c 1 ∗ due c g) -∗ wpc c k Q)
        -∗ wpc c (takeAll k b s l) Q)
  | [], b, s => by
    unfold takeAll
    rw [bigSepL_singleton, bigSepL_singleton]
    iintro ⟨#Hlev, HF, Hf, H8, -, HO⟩ Hk
    iapply (wp_wTake m ρ c b s g) $$ [HF H8 HO]
    · isplitr; · iexact Hlev
      isplitl [HF]; · iexact HF
      isplitl [H8]; · iexact H8
      iexact HO
    iintro ⟨Hw, H8, Hs, HO⟩
    iapply Hk
    isplitl [Hw H8]
    · isplitl [Hw]; · iexact Hw
      iexact H8
    ihave Hb := (wFree_both c s) $$ [Hs Hf]
    · isplitl [Hs]; · iexact Hs
      iexact Hf
    icases Hb with ⟨H0, H1⟩
    isplitl [H0]; · iexact H0
    isplitl [H1]; · iexact H1
    iexact HO
  | b' :: l, b, s => by
    unfold takeAll wStep
    rw [bigSepL_cons' b (b' :: l), bigSepL_cons' b (b' :: l), bigSepL_cons' b' l (wIn m ρ c)]
    iintro ⟨#Hlev, HF, Hf, ⟨H8, H8s⟩, ⟨Hw', Hws⟩, HO⟩ Hk
    iapply (wp_wStart m ρ c b' (other s)) $$ [Hw' Hf]
    · isplitl [Hw']; · iexact Hw'
      iexact Hf
    iintro HF'
    iapply (wp_wTake m ρ c b s g) $$ [HF H8 HO]
    · isplitr; · iexact Hlev
      isplitl [HF]; · iexact HF
      isplitl [H8]; · iexact H8
      iexact HO
    iintro ⟨Hw, H8, Hs, HO⟩
    have hs : other (other s) = s := by revert s; decide
    iapply (wp_takeAll g l b' (other s)) $$ [HF' Hs H8s Hws HO]
    · isplitr; · iexact Hlev
      isplitl [HF']; · iexact HF'
      isplitl [Hs]; · rw [hs]; iexact Hs
      isplitl [H8s]; · iexact H8s
      isplitl [Hws]; · iexact Hws
      iexact HO
    iintro ⟨Hd, H0, H1, HO⟩
    iapply Hk
    isplitl [Hw H8 Hd]
    · isplitl [Hw H8]
      · isplitl [Hw]; · iexact Hw
        iexact H8
      · iexact Hd
    isplitl [H0]; · iexact H0
    isplitl [H1]; · iexact H1
    iexact HO

theorem wp_weights [∀ e, Nonempty (Elt F e)] (g : List Leg) :
    iprop(levAts L lv ∗ bigSep Finset.univ (wIn m ρ c) ∗ (bigSep Finset.univ fun b => held c (w8Blk b)) ∗ wFree c 0 ∗ wFree c 1 ∗ due c g)
      ⊢ iprop(((bigSep Finset.univ (wIn m ρ c) ∗ wAll m ρ c ∗ wFree c 0 ∗ wFree c 1 ∗ due c g) -∗ wpc c k Q) -∗ wpc c (weights k) Q) := by
  unfold weights
  have e : (bigSepL (0 :: wRest) (fun b => iprop(wIn m ρ c b ∗ wOut m ρ c b)) : sProp 𝕄) ⊢ iprop(bigSep Finset.univ (wIn m ρ c) ∗ wAll m ρ c) := by
    rw [← sep_blocks, bigSep_sep']
    iintro ⟨Hw, H8⟩
    isplitl [Hw]; · iexact Hw
    unfold wAll
    iapply (owns_of_rects (c : Thread nD τ) w8M fullShare rW (fun _ _ => rfl) rW_disjoint rW_cover (w8 m ρ c))
    iexact H8
  iintro ⟨#Hlev, Hw, H8, H0, H1, HO⟩ Hk
  ihave Hw := (Entails.of_eq (sep_blocks (wIn m ρ c))) $$ Hw
  ihave Hw := (Entails.of_eq (bigSepL_cons' (0 : Fin 16) wRest (wIn m ρ c))) $$ Hw
  icases Hw with ⟨Hw0, Hws⟩
  ihave H8 := (Entails.of_eq (sep_blocks fun b => held c (w8Blk b))) $$ H8
  iapply (wp_wStart m ρ c 0 0) $$ [Hw0 H0]
  · isplitl [Hw0]; · iexact Hw0
    iexact H0
  iintro HF
  iapply (wp_takeAll m ρ c g wRest 0 0) $$ [HF H1 H8 Hws HO]
  · isplitr; · iexact Hlev
    isplitl [HF]; · iexact HF
    isplitl [H1]; · iexact H1
    isplitl [H8]; · iexact H8
    isplitl [Hws]; · iexact Hws
    iexact HO
  iintro ⟨Hd, H0, H1, HO⟩
  ihave Hd := e $$ Hd
  icases Hd with ⟨Hw, H8⟩
  iapply Hk
  isplitl [Hw]; · iexact Hw
  isplitl [H8]; · iexact H8
  isplitl [H0]; · iexact H0
  isplitl [H1]; · iexact H1
  iexact HO

/-! ## The products -/

/-- Where the products of the rows of device `rel c a` go. -/
abbrev place (c : Dev nD) (a q : Fin 4) : Place := placeOf (rel c a) q

theorem wp_own (g : List Leg) :
    iprop(levAts L lv ∗ (kept m ρ c 0 ∗ kept m ρ c 1 ∗ kept m ρ c 2 ∗ kept m ρ c 3) ∗ wAll m ρ c ∗ oFree c 0 ∗ oFree c 1
        ∗ (oTodo c c 0 ∗ oTodo c c 1 ∗ oTodo c c 2 ∗ oTodo c c 3) ∗ due c g)
      ⊢ iprop((((kept m ρ c 0 ∗ kept m ρ c 1 ∗ kept m ρ c 2 ∗ kept m ρ c 3) ∗ wAll m ρ c ∗ oDone m ρ c c 0 ∗ oDone m ρ c c 1
          ∗ oGoing m ρ c 0 c 2 ∗ oGoing m ρ c 1 c 3 ∗ due c g) -∗ wpc c k Q) -∗ wpc c (own (scale m ρ c) (place c) k) Q) := by
  unfold own kept
  iintro ⟨#Hlev, ⟨Hk0, Hk1, Hk2, Hk3⟩, Hw, H0, H1, ⟨Ho0, Ho1, Ho2, Ho3⟩, HO⟩ Hk
  iapply (wp_rowsQ m ρ c x8M fullShare.left 0 0 c 0) $$ [Hk0 Hw H0 Ho0]
  · isplitl [Hk0]; · iexact Hk0
    isplitl [Hw]; · iexact Hw
    isplitl [H0]; · iexact H0
    iexact Ho0
  iintro ⟨Hk0, Hw, H0⟩
  iapply (wp_rowsQ m ρ c x8M fullShare.left 1 1 c 1) $$ [Hk1 Hw H1 Ho1]
  · isplitl [Hk1]; · iexact Hk1
    isplitl [Hw]; · iexact Hw
    isplitl [H1]; · iexact H1
    iexact Ho1
  iintro ⟨Hk1, Hw, H1⟩
  iapply (wp_outWait m ρ c 0 c 0 g) $$ [H0 HO]
  · isplitr; · iexact Hlev
    isplitl [H0]; · iexact H0
    iexact HO
  iintro ⟨Ho0, H0, HO⟩
  iapply (wp_rowsQ m ρ c x8M fullShare.left 2 0 c 2) $$ [Hk2 Hw H0 Ho2]
  · isplitl [Hk2]; · iexact Hk2
    isplitl [Hw]; · iexact Hw
    isplitl [H0]; · iexact H0
    iexact Ho2
  iintro ⟨Hk2, Hw, H0⟩
  iapply (wp_outWait m ρ c 1 c 1 g) $$ [H1 HO]
  · isplitr; · iexact Hlev
    isplitl [H1]; · iexact H1
    iexact HO
  iintro ⟨Ho1, H1, HO⟩
  iapply (wp_rowsQ m ρ c x8M fullShare.left 3 1 c 3) $$ [Hk3 Hw H1 Ho3]
  · isplitl [Hk3]; · iexact Hk3
    isplitl [Hw]; · iexact Hw
    isplitl [H1]; · iexact H1
    iexact Ho3
  iintro ⟨Hk3, Hw, H1⟩
  iapply Hk
  isplitl [Hk0 Hk1 Hk2 Hk3]
  · isplitl [Hk0]; · iexact Hk0
    isplitl [Hk1]; · iexact Hk1
    isplitl [Hk2]; · iexact Hk2
    iexact Hk3
  isplitl [Hw]; · iexact Hw
  isplitl [Ho0]; · iexact Ho0
  isplitl [Ho1]; · iexact Ho1
  isplitl [H0]; · iexact H0
  isplitl [H1]; · iexact H1
  iexact HO

/-- Quarter `q` of a neighbour's rows, in the buffer it arrived in, at the share `sh`. -/
def fromL (q : Fin 4) (sh : PosShare TreeShare) : sProp 𝕄 := owns (c : Thread nD τ) (quarter r0M q) sh (x8 m ρ (prv c) q)
def fromR (q : Fin 4) (sh : PosShare TreeShare) : sProp 𝕄 := owns (c : Thread nD τ) (quarter l0M q) sh (x8 m ρ (nxt c) q)

/-- What a hop leaves of quarter `q`: the shares the products were made under, and the two cells at zero. -/
def hopped (q : Fin 4) : sProp 𝕄 :=
  iprop((fromL m ρ c q fullShare.left ∗ fromR m ρ c q fullShare.left) ∗ semVal (recvCell c (.right q)) 0 ∗ semVal (recvCell c (.left q)) 0)

/-- One hop. `t` is what is sent on and `R` the arrival that is not. -/
theorem wp_hop (K : Dev nD × CellIx → ℕ) (q : Fin 4) (t : Leg) (R : sProp 𝕄) (g : List Leg) (d₀ d₁ : Dev nD) (q₀ q₁ : Fin 4)
    (hR : iprop(fromL m ρ c q fullShare.right ∗ fromR m ρ c q fullShare.right) ⊢ iprop(owns (c : Thread nD τ) (srcM t) (shr t) (sent m ρ c t) ∗ R))
    (hg : ∀ t' ∈ t :: g, 2 < cellLev (some (true, t'))) :
    iprop(records m ρ K ∗ levAts L lv ∗ (coming c (.right q) ∗ coming c (.left q)) ∗ ready c t ∗ oGoing m ρ c 0 d₀ q₀ ∗ oGoing m ρ c 1 d₁ q₁
        ∗ (oTodo c (prv c) q ∗ oTodo c (nxt c) q) ∗ wAll m ρ c ∗ due c (t :: g))
      ⊢ iprop(((hopped m ρ c q ∗ R ∗ leaving c t ∗ (oDone m ρ c d₀ q₀ ∗ oDone m ρ c d₁ q₁) ∗ oGoing m ρ c 0 (prv c) q ∗ oGoing m ρ c 1 (nxt c) q
            ∗ wAll m ρ c ∗ due c g) -∗ wpc c k Q)
        -∗ wpc c (hop (scale m ρ c) (place c) (send t (tgt t c)) q (placeOf d₀ q₀) (placeOf d₁ q₁) k) Q) := by
  unfold hop hopped
  iintro ⟨#Hrec, #Hlev, ⟨Hr, Hl⟩, Ht, H0, H1, ⟨HoP, HoN⟩, Hw, HO⟩ Hk
  iapply (wp_waitRecv m ρ c K (.right q) (t :: g) hg) $$ [Hr HO]
  · isplitr; · iexact Hrec
    isplitr; · iexact Hlev
    isplitl [Hr]; · iexact Hr
    iexact HO
  iintro ⟨Hr, Hzr, HO⟩
  iapply (wp_waitRecv m ρ c K (.left q) (t :: g) hg) $$ [Hl HO]
  · isplitr; · iexact Hrec
    isplitr; · iexact Hlev
    isplitl [Hl]; · iexact Hl
    iexact HO
  iintro ⟨Hl, Hzl, HO⟩
  ihave Hr := ((show (owns (c : Thread nD τ) (dstM (.right q)) fullShare (got m ρ c (.right q)) : sProp 𝕄) ⊢ owns (c : Thread nD τ) (quarter r0M q) fullShare (x8 m ρ (prv c) q) from .rfl).trans
    (owns_halves (c : Thread nD τ) (quarter r0M q) fullShare (x8 m ρ (prv c) q)).1) $$ Hr
  ihave Hl := ((show (owns (c : Thread nD τ) (dstM (.left q)) fullShare (got m ρ c (.left q)) : sProp 𝕄) ⊢ owns (c : Thread nD τ) (quarter l0M q) fullShare (x8 m ρ (nxt c) q) from .rfl).trans
    (owns_halves (c : Thread nD τ) (quarter l0M q) fullShare (x8 m ρ (nxt c) q)).1) $$ Hl
  icases Hr with ⟨Hr, Hr'⟩
  icases Hl with ⟨Hl, Hl'⟩
  ihave HR := hR $$ [Hr' Hl']
  · unfold fromL fromR
    isplitl [Hr']; · iexact Hr'
    iexact Hl'
  icases HR with ⟨Hs, HR⟩
  iapply (wp_send m ρ c K t g) $$ [Hs Ht HO]
  · isplitr; · iexact Hrec
    isplitl [Hs]; · iexact Hs
    isplitl [Ht]; · iexact Ht
    iexact HO
  iintro ⟨Ht, HO⟩
  iapply (wp_outWait m ρ c 0 d₀ q₀ g) $$ [H0 HO]
  · isplitr; · iexact Hlev
    isplitl [H0]; · iexact H0
    iexact HO
  iintro ⟨Hd0, H0, HO⟩
  iapply (wp_rowsQ m ρ c r0M fullShare.left q 0 (prv c) q) $$ [Hr Hw H0 HoP]
  · isplitl [Hr]; · iexact Hr
    isplitl [Hw]; · iexact Hw
    isplitl [H0]; · iexact H0
    iexact HoP
  iintro ⟨Hr, Hw, H0⟩
  iapply (wp_outWait m ρ c 1 d₁ q₁ g) $$ [H1 HO]
  · isplitr; · iexact Hlev
    isplitl [H1]; · iexact H1
    iexact HO
  iintro ⟨Hd1, H1, HO⟩
  iapply (wp_rowsQ m ρ c l0M fullShare.left q 1 (nxt c) q) $$ [Hl Hw H1 HoN]
  · isplitl [Hl]; · iexact Hl
    isplitl [Hw]; · iexact Hw
    isplitl [H1]; · iexact H1
    iexact HoN
  iintro ⟨Hl, Hw, H1⟩
  iapply Hk
  isplitl [Hr Hl Hzr Hzl]
  · unfold fromL fromR
    isplitl [Hr Hl]
    · isplitl [Hr]; · iexact Hr
      iexact Hl
    isplitl [Hzr]; · iexact Hzr
    iexact Hzl
  isplitl [HR]; · iexact HR
  isplitl [Ht]; · iexact Ht
  isplitl [Hd0 Hd1]
  · isplitl [Hd0]; · iexact Hd0
    iexact Hd1
  isplitl [H0]; · iexact H0
  isplitl [H1]; · iexact H1
  isplitl [Hw]; · iexact Hw
  iexact HO

/-- What a far arrival leaves: the two halves and their cells at zero. -/
def reachedFar (j : Fin 2) : sProp 𝕄 :=
  iprop((held c (half r1M j) ∗ held c (half l1M j)) ∗ semVal (recvCell c (.fwdR j)) 0 ∗ semVal (recvCell c (.fwdL j)) 0)

theorem got_far (j : Fin 2) : got m ρ c (.fwdR j) = x8 m ρ (opp c) (lo j) ∧ got m ρ c (.fwdL j) = x8 m ρ (opp c) (hi j) := by
  constructor
  · show x8 m ρ (prv (prv c)) (lo j) = _
    rw [prv_prv]
  · show x8 m ρ (nxt (nxt c)) (hi j) = _
    rw [nxt_nxt]

theorem wp_far (K : Dev nD × CellIx → ℕ) (j : Fin 2) (d₀ d₁ : Dev nD) (q₀ q₁ : Fin 4) :
    iprop(records m ρ K ∗ levAts L lv ∗ (coming c (.fwdR j) ∗ coming c (.fwdL j)) ∗ oGoing m ρ c 0 d₀ q₀ ∗ oGoing m ρ c 1 d₁ q₁
        ∗ (oTodo c (opp c) (lo j) ∗ oTodo c (opp c) (hi j)) ∗ wAll m ρ c ∗ due c [])
      ⊢ iprop(((reachedFar c j ∗ (oDone m ρ c d₀ q₀ ∗ oDone m ρ c d₁ q₁) ∗ oGoing m ρ c 0 (opp c) (lo j) ∗ oGoing m ρ c 1 (opp c) (hi j)
            ∗ wAll m ρ c ∗ due c []) -∗ wpc c k Q)
        -∗ wpc c (far (scale m ρ c) (place c) j (placeOf d₀ q₀) (placeOf d₁ q₁) k) Q) := by
  unfold far reachedFar
  iintro ⟨#Hrec, #Hlev, ⟨Hr, Hl⟩, H0, H1, ⟨Hlo, Hhi⟩, Hw, HO⟩ Hk
  iapply (wp_waitRecv m ρ c K (.fwdR j) [] (fun _ h => absurd h List.not_mem_nil)) $$ [Hr HO]
  · isplitr; · iexact Hrec
    isplitr; · iexact Hlev
    isplitl [Hr]; · iexact Hr
    iexact HO
  iintro ⟨Hr, Hzr, HO⟩
  rw [(got_far m ρ c j).1]
  iapply (wp_outWait m ρ c 0 d₀ q₀ []) $$ [H0 HO]
  · isplitr; · iexact Hlev
    isplitl [H0]; · iexact H0
    iexact HO
  iintro ⟨Hd0, H0, HO⟩
  iapply (wp_rowsH m ρ c r1M j 0 (opp c) (lo j)) $$ [Hr Hw H0 Hlo]
  · isplitl [Hr]; · iexact Hr
    isplitl [Hw]; · iexact Hw
    isplitl [H0]; · iexact H0
    iexact Hlo
  iintro ⟨Hr, Hw, H0⟩
  iapply (wp_waitRecv m ρ c K (.fwdL j) [] (fun _ h => absurd h List.not_mem_nil)) $$ [Hl HO]
  · isplitr; · iexact Hrec
    isplitr; · iexact Hlev
    isplitl [Hl]; · iexact Hl
    iexact HO
  iintro ⟨Hl, Hzl, HO⟩
  rw [(got_far m ρ c j).2]
  iapply (wp_outWait m ρ c 1 d₁ q₁ []) $$ [H1 HO]
  · isplitr; · iexact Hlev
    isplitl [H1]; · iexact H1
    iexact HO
  iintro ⟨Hd1, H1, HO⟩
  iapply (wp_rowsH m ρ c l1M j 1 (opp c) (hi j)) $$ [Hl Hw H1 Hhi]
  · isplitl [Hl]; · iexact Hl
    isplitl [Hw]; · iexact Hw
    isplitl [H1]; · iexact H1
    iexact Hhi
  iintro ⟨Hl, Hw, H1⟩
  iapply Hk
  isplitl [Hr Hl Hzr Hzl]
  · isplitl [Hr Hl]
    · isplitl [Hr]
      · iapply (held_of c (half r1M j) _) $$ Hr
      · iapply (held_of c (half l1M j) _) $$ Hl
    isplitl [Hzr]; · iexact Hzr
    iexact Hzl
  isplitl [Hd0 Hd1]
  · isplitl [Hd0]; · iexact Hd0
    iexact Hd1
  isplitl [H0]; · iexact H0
  isplitl [H1]; · iexact H1
  isplitl [Hw]; · iexact Hw
  iexact HO

/-! ## The end -/

/-- Copy `t` gone: its source back and its cell at zero. -/
def gone (t : Leg) : sProp 𝕄 := iprop(owns (c : Thread nD τ) (srcM t) (shr t) (sent m ρ c t) ∗ semVal (sendCell c t) 0)

/-- Wait for all of the copies `l` in turn. -/
def waitSends (l : List Leg) (k : Core F) : Core F := l.foldr waitSend k

theorem wp_waitSends (K : Dev nD × CellIx → ℕ) : ∀ (l : List Leg),
    iprop(records m ρ K ∗ bigSepL l (leaving (F := F) c) ∗ due c [])
      ⊢ iprop(((bigSepL l (gone m ρ c) ∗ due c []) -∗ wpc c k Q) -∗ wpc c (waitSends l k) Q)
  | [] => by
    iintro ⟨-, He, HO⟩ Hk
    iapply Hk
    isplitl [He]; · iexact He
    iexact HO
  | t :: l => by
    rw [bigSepL_cons', bigSepL_cons']
    iintro ⟨#Hrec, ⟨Ht, Hl⟩, HO⟩ Hk
    iapply (show iprop(records m ρ K ∗ leaving c t ∗ due c [])
      ⊢ iprop(((owns (c : Thread nD τ) (srcM t) (shr t) (sent m ρ c t) ∗ semVal (sendCell c t) 0 ∗ due c []) -∗ wpc c (waitSends l k) Q)
        -∗ wpc c (waitSends (t :: l) k) Q) from wp_waitSend m ρ c K t) $$ [Ht HO]
    · isplitr; · iexact Hrec
      isplitl [Ht]; · iexact Ht
      iexact HO
    iintro ⟨Hs, Hz, HO⟩
    iapply (wp_waitSends K l) $$ [Hl HO]
    · isplitr; · iexact Hrec
      isplitl [Hl]; · iexact Hl
      iexact HO
    iintro ⟨Hl, HO⟩
    iapply Hk
    isplitl [Hs Hz Hl]
    · isplitl [Hs Hz]
      · unfold gone
        isplitl [Hs]; · iexact Hs
        iexact Hz
      · iexact Hl
    iexact HO

end Rules

end Device

end Cert.RingMatmul

end
-- ==== Proof.Whole.lean ====
/- The body as a whole: from what a device holds when it starts to what it holds at the end. -/
module

public import proofs.«01_k».proof.Proof.Body

@[expose] public section

noncomputable section

namespace Cert.RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

section Device

variable (c : Dev nD)

section Rules
variable {Q : PUnit → sProp (MT nD τ sig Unit (Elt F) ℕ UU ℕ)} {k : Core F}

/-! ## The parts over all quarters -/

/-- The copies sent on. -/
abbrev fwds : List Leg := [.fwdR 0, .fwdR 1, .fwdL 0, .fwdL 1]

/-- What sending quarter `q` takes, and what it leaves. -/
def outPre (q : Fin 4) : sProp 𝕄 := iprop(held c (quarter x8M q) ∗ ready c (.right q) ∗ ready c (.left q))
def outPost (q : Fin 4) : sProp 𝕄 := iprop(kept m ρ c q ∗ leaving c (.right q) ∗ leaving c (.left q))

theorem wp_out (K : Dev nD × CellIx → ℕ) (q : Fin 4) (l : List Leg) :
    iprop(records m ρ K ∗ (owns (c : Thread nD τ) xM fullShare (rowsIn m ρ c) ∗ due c (.right q :: .left q :: l)) ∗ outPre c q)
      ⊢ iprop((((owns (c : Thread nD τ) xM fullShare (rowsIn m ρ c) ∗ due c l) ∗ outPost m ρ c q) -∗ wpc c k Q)
        -∗ wpc c (quarterOut (nxt c) (prv c) q k) Q) := by
  unfold outPre outPost
  iintro ⟨#Hrec, ⟨Hx, HO⟩, H8, Hr, Hl⟩ Hk
  iapply (wp_quarterOut m ρ c K q l) $$ [Hx H8 Hr Hl HO]
  · isplitr; · iexact Hrec
    isplitl [Hx]; · iexact Hx
    isplitl [H8]; · iexact H8
    isplitl [Hr]; · iexact Hr
    isplitl [Hl]; · iexact Hl
    iexact HO
  iintro ⟨Hx, Hkept, Hr, Hl, HO⟩
  iapply Hk
  isplitl [Hx HO]
  · isplitl [Hx]; · iexact Hx
    iexact HO
  isplitl [Hkept]; · iexact Hkept
  isplitl [Hr]; · iexact Hr
  iexact Hl

theorem wp_outs (K : Dev nD × CellIx → ℕ) :
    iprop(records m ρ K ∗ (owns (c : Thread nD τ) xM fullShare (rowsIn m ρ c) ∗ due c sends) ∗ bigSep Finset.univ (outPre c))
      ⊢ iprop((((owns (c : Thread nD τ) xM fullShare (rowsIn m ρ c) ∗ due c fwds) ∗ bigSep Finset.univ (outPost m ρ c)) -∗ wpc c k Q)
        -∗ wpc c (quarterOut (nxt c) (prv c) 0 <| quarterOut (nxt c) (prv c) 1 <| quarterOut (nxt c) (prv c) 2 <| quarterOut (nxt c) (prv c) 3 k) Q) := by
  rw [sep_four, sep_four]
  iintro ⟨#Hrec, Hx, H0, H1, H2, H3⟩ Hk
  iapply (wp_out m ρ c K 0 _) $$ [Hx H0]
  · isplitr; · iexact Hrec
    isplitl [Hx]; · iexact Hx
    iexact H0
  iintro ⟨Hx, H0⟩
  iapply (wp_out m ρ c K 1 _) $$ [Hx H1]
  · isplitr; · iexact Hrec
    isplitl [Hx]; · iexact Hx
    iexact H1
  iintro ⟨Hx, H1⟩
  iapply (wp_out m ρ c K 2 _) $$ [Hx H2]
  · isplitr; · iexact Hrec
    isplitl [Hx]; · iexact Hx
    iexact H2
  iintro ⟨Hx, H2⟩
  iapply (wp_out m ρ c K 3 fwds) $$ [Hx H3]
  · isplitr; · iexact Hrec
    isplitl [Hx]; · iexact Hx
    iexact H3
  iintro ⟨Hx, H3⟩
  iapply Hk
  isplitl [Hx]; · iexact Hx
  isplitl [H0]; · iexact H0
  isplitl [H1]; · iexact H1
  isplitl [H2]; · iexact H2
  iexact H3

/-- The quarter's arrival that is not sent on, at the share it would have been sent on under. -/
def rest : Fin 4 → sProp 𝕄
  | 0 => fromR m ρ c 0 fullShare.right
  | 1 => fromR m ρ c 1 fullShare.right
  | 2 => fromL m ρ c 2 fullShare.right
  | 3 => fromL m ρ c 3 fullShare.right

/-- What is sent on of quarter `q`. -/
def fwdOf : Fin 4 → Leg
  | 0 => .fwdR 0
  | 1 => .fwdR 1
  | 2 => .fwdL 0
  | 3 => .fwdL 1

theorem rest_split (q : Fin 4) : iprop(fromL m ρ c q fullShare.right ∗ fromR m ρ c q fullShare.right)
    ⊢ iprop(owns (c : Thread nD τ) (srcM (fwdOf q)) (shr (fwdOf q)) (sent m ρ c (fwdOf q)) ∗ rest m ρ c q) := by
  have h : q = 0 ∨ q = 1 ∨ q = 2 ∨ q = 3 := by revert q; decide
  rcases h with rfl | rfl | rfl | rfl
  · exact .rfl
  · exact .rfl
  · exact sep_comm.1
  · exact sep_comm.1

/-- and back. -/
theorem rest_join (q : Fin 4) : iprop(owns (c : Thread nD τ) (srcM (fwdOf q)) (shr (fwdOf q)) (sent m ρ c (fwdOf q)) ∗ rest m ρ c q)
    ⊢ iprop(fromL m ρ c q fullShare.right ∗ fromR m ρ c q fullShare.right) := by
  have h : q = 0 ∨ q = 1 ∨ q = 2 ∨ q = 3 := by revert q; decide
  rcases h with rfl | rfl | rfl | rfl
  · exact .rfl
  · exact .rfl
  · exact sep_comm.1
  · exact sep_comm.1

/-- What the hop of quarter `q` takes, and what it leaves. -/
def hopPre (q : Fin 4) : sProp 𝕄 := iprop((coming c (.right q) ∗ coming c (.left q)) ∗ ready c (fwdOf q) ∗ oTodo c (prv c) q ∗ oTodo c (nxt c) q)
def hopPost (q : Fin 4) : sProp 𝕄 := iprop(hopped m ρ c q ∗ rest m ρ c q ∗ leaving c (fwdOf q))

/-- The slots of the results emptying, and the weights at hand. -/
def busy (d₀ d₁ : Dev nD) (q₀ q₁ : Fin 4) : sProp 𝕄 := iprop(oGoing m ρ c 0 d₀ q₀ ∗ oGoing m ρ c 1 d₁ q₁ ∗ wAll m ρ c)

theorem wp_hop' (K : Dev nD × CellIx → ℕ) (q : Fin 4) (g : List Leg) (d₀ d₁ : Dev nD) (q₀ q₁ : Fin 4)
    (hg : ∀ t' ∈ fwdOf q :: g, 2 < cellLev (some (true, t'))) :
    iprop(records m ρ K ∗ levAts L lv ∗ busy m ρ c d₀ d₁ q₀ q₁ ∗ due c (fwdOf q :: g) ∗ hopPre c q)
      ⊢ iprop(((busy m ρ c (prv c) (nxt c) q q ∗ due c g ∗ hopPost m ρ c q ∗ (oDone m ρ c d₀ q₀ ∗ oDone m ρ c d₁ q₁)) -∗ wpc c k Q)
        -∗ wpc c (hop (scale m ρ c) (place c) (send (fwdOf q) (tgt (fwdOf q) c)) q (placeOf d₀ q₀) (placeOf d₁ q₁) k) Q) := by
  unfold busy hopPre hopPost
  iintro ⟨#Hrec, #Hlev, ⟨H0, H1, Hw⟩, HO, Hc, Ht, Ho⟩ Hk
  iapply (wp_hop m ρ c K q (fwdOf q) (rest m ρ c q) g d₀ d₁ q₀ q₁ (rest_split m ρ c q) hg) $$ [H0 H1 Hw HO Hc Ht Ho]
  · isplitr; · iexact Hrec
    isplitr; · iexact Hlev
    isplitl [Hc]; · iexact Hc
    isplitl [Ht]; · iexact Ht
    isplitl [H0]; · iexact H0
    isplitl [H1]; · iexact H1
    isplitl [Ho]; · iexact Ho
    isplitl [Hw]; · iexact Hw
    iexact HO
  iintro ⟨Hh, HR, Ht, Hd, H0, H1, Hw, HO⟩
  iapply Hk
  isplitl [H0 H1 Hw]
  · isplitl [H0]; · iexact H0
    isplitl [H1]; · iexact H1
    iexact Hw
  isplitl [HO]; · iexact HO
  isplitr [Hd]
  · isplitl [Hh]; · iexact Hh
    isplitl [HR]; · iexact HR
    iexact Ht
  iexact Hd

theorem wp_hops (K : Dev nD × CellIx → ℕ) :
    iprop(records m ρ K ∗ levAts L lv ∗ busy m ρ c c c 2 3 ∗ due c fwds ∗ bigSep Finset.univ (hopPre c))
      ⊢ iprop(((busy m ρ c (prv c) (nxt c) 3 3 ∗ due c [] ∗ bigSep Finset.univ (hopPost m ρ c)
            ∗ (oDone m ρ c c 2 ∗ oDone m ρ c c 3) ∗ (oDone m ρ c (prv c) 0 ∗ oDone m ρ c (nxt c) 0)
            ∗ (oDone m ρ c (prv c) 1 ∗ oDone m ρ c (nxt c) 1) ∗ (oDone m ρ c (prv c) 2 ∗ oDone m ρ c (nxt c) 2)) -∗ wpc c k Q)
        -∗ wpc c (hops (scale m ρ c) (nxt c) (prv c) (place c) k) Q) := by
  unfold hops
  rw [sep_four, sep_four]
  iintro ⟨#Hrec, #Hlev, Hb, HO, H0, H1, H2, H3⟩ Hk
  iapply (wp_hop' m ρ c K 0 [.fwdR 1, .fwdL 0, .fwdL 1] c c 2 3 (by decide)) $$ [Hb HO H0]
  · isplitr; · iexact Hrec
    isplitr; · iexact Hlev
    isplitl [Hb]; · iexact Hb
    isplitl [HO]; · iexact HO
    iexact H0
  iintro ⟨Hb, HO, H0, Hd0⟩
  iapply (wp_hop' m ρ c K 1 [.fwdL 0, .fwdL 1] (prv c) (nxt c) 0 0 (by decide)) $$ [Hb HO H1]
  · isplitr; · iexact Hrec
    isplitr; · iexact Hlev
    isplitl [Hb]; · iexact Hb
    isplitl [HO]; · iexact HO
    iexact H1
  iintro ⟨Hb, HO, H1, Hd1⟩
  iapply (wp_hop' m ρ c K 2 [.fwdL 1] (prv c) (nxt c) 1 1 (by decide)) $$ [Hb HO H2]
  · isplitr; · iexact Hrec
    isplitr; · iexact Hlev
    isplitl [Hb]; · iexact Hb
    isplitl [HO]; · iexact HO
    iexact H2
  iintro ⟨Hb, HO, H2, Hd2⟩
  iapply (wp_hop' m ρ c K 3 [] (prv c) (nxt c) 2 2 (by decide)) $$ [Hb HO H3]
  · isplitr; · iexact Hrec
    isplitr; · iexact Hlev
    isplitl [Hb]; · iexact Hb
    isplitl [HO]; · iexact HO
    iexact H3
  iintro ⟨Hb, HO, H3, Hd3⟩
  iapply Hk
  isplitl [Hb]; · iexact Hb
  isplitl [HO]; · iexact HO
  isplitl [H0 H1 H2 H3]
  · isplitl [H0]; · iexact H0
    isplitl [H1]; · iexact H1
    isplitl [H2]; · iexact H2
    iexact H3
  isplitl [Hd0]; · iexact Hd0
  isplitl [Hd1]; · iexact Hd1
  isplitl [Hd2]; · iexact Hd2
  iexact Hd3

/-- What the far arrivals `j` take. -/
def farPre (j : Fin 2) : sProp 𝕄 := iprop((coming c (.fwdR j) ∗ coming c (.fwdL j)) ∗ oTodo c (opp c) (lo j) ∗ oTodo c (opp c) (hi j))

theorem wp_far' (K : Dev nD × CellIx → ℕ) (j : Fin 2) (d₀ d₁ : Dev nD) (q₀ q₁ : Fin 4) :
    iprop(records m ρ K ∗ levAts L lv ∗ busy m ρ c d₀ d₁ q₀ q₁ ∗ due c [] ∗ farPre c j)
      ⊢ iprop(((busy m ρ c (opp c) (opp c) (lo j) (hi j) ∗ due c [] ∗ reachedFar c j ∗ (oDone m ρ c d₀ q₀ ∗ oDone m ρ c d₁ q₁)) -∗ wpc c k Q)
        -∗ wpc c (far (scale m ρ c) (place c) j (placeOf d₀ q₀) (placeOf d₁ q₁) k) Q) := by
  unfold busy farPre
  iintro ⟨#Hrec, #Hlev, ⟨H0, H1, Hw⟩, HO, Hc, Ho⟩ Hk
  iapply (wp_far m ρ c K j d₀ d₁ q₀ q₁) $$ [H0 H1 Hw HO Hc Ho]
  · isplitr; · iexact Hrec
    isplitr; · iexact Hlev
    isplitl [Hc]; · iexact Hc
    isplitl [H0]; · iexact H0
    isplitl [H1]; · iexact H1
    isplitl [Ho]; · iexact Ho
    isplitl [Hw]; · iexact Hw
    iexact HO
  iintro ⟨Hh, Hd, H0, H1, Hw, HO⟩
  iapply Hk
  isplitl [H0 H1 Hw]
  · isplitl [H0]; · iexact H0
    isplitl [H1]; · iexact H1
    iexact Hw
  isplitl [HO]; · iexact HO
  isplitl [Hh]; · iexact Hh
  iexact Hd

theorem wp_fars (K : Dev nD × CellIx → ℕ) :
    iprop(records m ρ K ∗ levAts L lv ∗ busy m ρ c (prv c) (nxt c) 3 3 ∗ due c [] ∗ bigSep Finset.univ (farPre c))
      ⊢ iprop(((busy m ρ c (opp c) (opp c) 1 3 ∗ due c [] ∗ bigSep Finset.univ (reachedFar c)
            ∗ (oDone m ρ c (prv c) 3 ∗ oDone m ρ c (nxt c) 3) ∗ (oDone m ρ c (opp c) 0 ∗ oDone m ρ c (opp c) 2)) -∗ wpc c k Q)
        -∗ wpc c (fars (scale m ρ c) (place c) k) Q) := by
  unfold fars
  rw [sep_two, sep_two]
  iintro ⟨#Hrec, #Hlev, Hb, HO, H0, H1⟩ Hk
  iapply (wp_far' m ρ c K 0 (prv c) (nxt c) 3 3) $$ [Hb HO H0]
  · isplitr; · iexact Hrec
    isplitr; · iexact Hlev
    isplitl [Hb]; · iexact Hb
    isplitl [HO]; · iexact HO
    iexact H0
  iintro ⟨Hb, HO, H0, Hd0⟩
  iapply (wp_far' m ρ c K 1 (opp c) (opp c) 0 2) $$ [Hb HO H1]
  · isplitr; · iexact Hrec
    isplitr; · iexact Hlev
    isplitl [Hb]; · iexact Hb
    isplitl [HO]; · iexact HO
    iexact H1
  iintro ⟨Hb, HO, H1, Hd1⟩
  iapply Hk
  isplitl [Hb]; · iexact Hb
  isplitl [HO]; · iexact HO
  isplitl [H0 H1]
  · isplitl [H0]; · iexact H0
    iexact H1
  isplitl [Hd0]; · iexact Hd0
  iexact Hd1

/-- The copies in the order in which they are waited for at the end. -/
abbrev goneOrder : List Leg :=
  [.right 0, .right 1, .right 2, .right 3, .left 0, .left 1, .left 2, .left 3, .fwdR 0, .fwdR 1, .fwdL 0, .fwdL 1]

theorem wp_finish (K : Dev nD × CellIx → ℕ) :
    iprop(records m ρ K ∗ levAts L lv ∗ busy m ρ c (opp c) (opp c) 1 3 ∗ due c [] ∗ bigSep Finset.univ (leaving (F := F) c))
      ⊢ iprop(((bigSep Finset.univ (gone m ρ c) ∗ (oDone m ρ c (opp c) 1 ∗ oDone m ρ c (opp c) 3) ∗ (oFree c 0 ∗ oFree c 1) ∗ wAll m ρ c ∗ due c [])
            -∗ wpc c k Q)
        -∗ wpc c (finish (place c) k) Q) := by
  unfold busy
  rw [bigSep_univ_eq_bigSepL goneOrder (by decide) (by decide), bigSep_univ_eq_bigSepL goneOrder (by decide) (by decide)]
  iintro ⟨#Hrec, #Hlev, ⟨H0, H1, Hw⟩, HO, Hl⟩ Hk
  iapply (show iprop(records m ρ K ∗ bigSepL goneOrder (leaving (F := F) c) ∗ due c [])
    ⊢ iprop(((bigSepL goneOrder (gone m ρ c) ∗ due c []) -∗ wpc c (outWait 0 (placeOf (opp c) 1) <| outWait 1 (placeOf (opp c) 3) k) Q)
      -∗ wpc c (finish (place c) k) Q) from wp_waitSends m ρ c K goneOrder) $$ [Hl HO]
  · isplitr; · iexact Hrec
    isplitl [Hl]; · iexact Hl
    iexact HO
  iintro ⟨Hl, HO⟩
  iapply (wp_outWait m ρ c 0 (opp c) 1 []) $$ [H0 HO]
  · isplitr; · iexact Hlev
    isplitl [H0]; · iexact H0
    iexact HO
  iintro ⟨Hd0, H0, HO⟩
  iapply (wp_outWait m ρ c 1 (opp c) 3 []) $$ [H1 HO]
  · isplitr; · iexact Hlev
    isplitl [H1]; · iexact H1
    iexact HO
  iintro ⟨Hd1, H1, HO⟩
  iapply Hk
  isplitl [Hl]; · iexact Hl
  isplitl [Hd0 Hd1]
  · isplitl [Hd0]; · iexact Hd0
    iexact Hd1
  isplitl [H0 H1]
  · isplitl [H0]; · iexact H0
    iexact H1
  isplitl [Hw]; · iexact Hw
  iexact HO

end Rules

/-! ## The buffers cut and put together -/

/-- The four landing buffers are the twelve blocks that copies land in. -/
theorem lend : iprop((held (F := F) c r0M ∗ held c l0M) ∗ (held c r1M ∗ held c l1M)) ⊢ bigSep Finset.univ fun t : Leg => held c (dstM t) := by
  rw [sep_legs]
  iintro ⟨⟨Hr0, Hl0⟩, Hr1, Hl1⟩
  ihave Hr0 := ((held_split c r0M rX (fun _ _ => rfl) rX_disjoint rX_cover).trans (Entails.of_eq (sep_four _))) $$ Hr0
  ihave Hl0 := ((held_split c l0M rX (fun _ _ => rfl) rX_disjoint rX_cover).trans (Entails.of_eq (sep_four _))) $$ Hl0
  ihave Hr1 := ((held_split c r1M rH (fun _ _ => rfl) rH_disjoint rH_cover).trans (Entails.of_eq (sep_two _))) $$ Hr1
  ihave Hl1 := ((held_split c l1M rH (fun _ _ => rfl) rH_disjoint rH_cover).trans (Entails.of_eq (sep_two _))) $$ Hl1
  rw [← held_squeeze c (r1M.slice (rH 0) (fun _ => rfl)) squeezes_S1x256x4096_S256x4096, ← held_squeeze c (r1M.slice (rH 1) (fun _ => rfl)) squeezes_S1x256x4096_S256x4096,
    ← held_squeeze c (l1M.slice (rH 0) (fun _ => rfl)) squeezes_S1x256x4096_S256x4096, ← held_squeeze c (l1M.slice (rH 1) (fun _ => rfl)) squeezes_S1x256x4096_S256x4096]
  isplitl [Hr0]; · iexact Hr0
  isplitl [Hl0]; · iexact Hl0
  isplitl [Hr1]; · iexact Hr1
  iexact Hl1

/-- The halves of a forwarding buffer are the buffer. -/
theorem join_half (b : Memref sig .tc .vmem S2x256x4096 .fp8e4m3) : iprop(held (F := F) c (half b 0) ∗ held c (half b 1)) ⊢ held c b := by
  unfold half
  rw [held_squeeze, held_squeeze]
  exact (Entails.of_eq (sep_two fun j => held c (b.slice (rH j) (fun _ => rfl))).symm).trans
    (held_join c b rH (fun _ _ => rfl) rH_disjoint rH_cover)

/-- The slots of a staging buffer are the buffer, -/
theorem split_slot (b : Memref sig .tc .vmem S2x256x2048 .f32) : held (F := F) c b ⊢ iprop(held c (slot b 0) ∗ held c (slot b 1)) := by
  unfold slot
  rw [held_squeeze, held_squeeze]
  exact (held_split c b rS (fun _ _ => rfl) rS_disjoint rS_cover).trans (Entails.of_eq (sep_two fun s => held c (b.slice (rS s) (fun _ => rfl))))
/-- and back. -/
theorem join_slot (b : Memref sig .tc .vmem S2x256x2048 .f32) : iprop(held (F := F) c (slot b 0) ∗ held c (slot b 1)) ⊢ held c b := by
  unfold slot
  rw [held_squeeze, held_squeeze]
  exact (Entails.of_eq (sep_two fun s => held c (b.slice (rS s) (fun _ => rfl))).symm).trans
    (held_join c b rS (fun _ _ => rfl) rS_disjoint rS_cover)

/-- A block owned in two halves at one contents is held. -/
theorem held_halves {sp : Space} {s : Shape} {e : EltTy} (b : Memref sig .tc sp s e) (Y : s.Idx → Elt F e) :
    iprop(owns (c : Thread nD τ) b fullShare.left Y ∗ owns (c : Thread nD τ) b fullShare.right Y) ⊢ held c b :=
  ((owns_halves (c : Thread nD τ) b fullShare Y).2).trans (held_of c b Y)

/-- The three shares of a quarter of the narrowed rows are the quarter. -/
theorem join_kept (q : Fin 4) :
    iprop(kept m ρ c q ∗ owns (c : Thread nD τ) (srcM (.right q)) (shr (.right q)) (sent m ρ c (.right q))
      ∗ owns (c : Thread nD τ) (srcM (.left q)) (shr (.left q)) (sent m ρ c (.left q))) ⊢ held c (quarter x8M q) := by
  unfold kept
  iintro ⟨Hk, Hr, Hl⟩
  iapply (held_halves c (quarter x8M q) (x8 m ρ c q))
  isplitl [Hk]; · iexact Hk
  iapply ((owns_halves (c : Thread nD τ) (quarter x8M q) fullShare.right (x8 m ρ c q)).2)
  isplitl [Hr]; · iexact Hr
  iexact Hl

/-- The result: in each block the products of the rows that the block is for. -/
def outF : S4096x2048.Idx → Elt F .f32 := Rect.glue (rO c) (rO_cover c) fun p => prod m ρ c (rel c p.1) p.2

theorem join_out : (bigSep Finset.univ fun p : Fin 4 × Fin 4 => oDone m ρ c (rel c p.1) p.2 : sProp 𝕄)
    ⊢ owns (c : Thread nD τ) outM fullShare (outF m ρ c) := by
  refine BIBase.Entails.trans ?_ (owns_of_rects (c : Thread nD τ) outM fullShare (rO c) (fun _ _ => rfl) (rO_disjoint c) (rO_cover c) (outF m ρ c))
  unfold outF
  simp only [Rect.glue_emb (rO c) (rO_cover c) (rO_disjoint c)]
  exact .rfl

theorem split_out : held (F := F) c outM ⊢ bigSep Finset.univ fun p : Fin 4 × Fin 4 => oTodo c (rel c p.1) p.2 :=
  held_split c outM (rO c) (fun _ _ => rfl) (rO_disjoint c) (rO_cover c)

/-! ## Before and after -/

/-- The tokens and the position that sending copy `t` takes. -/
def tokens (t : Leg) : sProp 𝕄 :=
  iprop(dutyTok ER (sendCell c t) 0 false ∗ dutyTok ER (recvCell (tgt t c) t) 0 false ∗ atPos ER (sendCell c t) 0 ∅ 0)

/-- The eight scratch buffers. -/
def scratch : sProp 𝕄 :=
  iprop(held c x8M ∗ held c w8M ∗ held c wstM ∗ held c r0M ∗ held c r1M ∗ held c l0M ∗ held c l1M ∗ held c stM)

/-- The local copies' semaphores at zero. -/
def locals : sProp 𝕄 :=
  iprop((semVal ((c : Thread nD τ), .dma (outS 0)) 0 ∗ semVal ((c : Thread nD τ), .dma (outS 1)) 0)
    ∗ semVal ((c : Thread nD τ), .dma (wS 0)) 0 ∗ semVal ((c : Thread nD τ), .dma (wS 1)) 0)

/-- The barrier's tokens, credit and position. -/
def atBar : sProp 𝕄 :=
  iprop(dutyTok ER (barCell (nxt c)) 0 false ∗ dutyTok ER (barCell (prv c)) 0 true ∗ cred (tallyAt (barCell c) () 2) ∗ atPos ER (barCell c) 0 ∅ 0)

def before : sProp 𝕄 :=
  iprop(atBar c ∗ (∃ W, owes (c : Thread nD τ) (O₀ c) W) ∗ bigSep Finset.univ (tokens (F := F) c) ∗ bigSep Finset.univ (coming (F := F) c)
    ∗ scratch c ∗ locals c ∗ owns (c : Thread nD τ) xM fullShare (rowsIn m ρ c) ∗ scales m ρ c
    ∗ owns (c : Thread nD τ) wM fullShare (weightsIn m ρ c) ∗ held c outM)

def after : sProp 𝕄 :=
  iprop(semVal (barCell c) 0 ∗ (bigSep Finset.univ fun t : Leg => semVal (sendCell c t) 0) ∗ (bigSep Finset.univ fun t : Leg => semVal (recvCell c t) 0)
    ∗ locals c ∗ scratch c ∗ due c [] ∗ owns (c : Thread nD τ) xM fullShare (rowsIn m ρ c) ∗ scales m ρ c
    ∗ owns (c : Thread nD τ) wM fullShare (weightsIn m ρ c) ∗ owns (c : Thread nD τ) outM fullShare (outF m ρ c))

/-- The tokens with the lent buffers are what sending takes, by part of the body. -/
theorem ready_parts : iprop((bigSep Finset.univ fun t : Leg => held (F := F) (tgt t c) (dstM t)) ∗ bigSep Finset.univ (tokens (F := F) c))
    ⊢ iprop((bigSep Finset.univ fun q : Fin 4 => iprop(ready (F := F) c (.right q) ∗ ready c (.left q))) ∗ bigSep Finset.univ fun q : Fin 4 => ready (F := F) c (fwdOf q)) := by
  rw [← bigSep_sep']
  have e : (bigSep Finset.univ fun t : Leg => iprop(held (F := F) (tgt t c) (dstM t) ∗ tokens c t)) = bigSep Finset.univ (ready (F := F) c) := rfl
  rw [e, sep_legs, sep_four, sep_four]
  iintro ⟨⟨R0, R1, R2, R3⟩, ⟨L0, L1, L2, L3⟩, ⟨F0, F1⟩, G0, G1⟩
  isplitr [F0 F1 G0 G1]
  · isplitl [R0 L0]
    · isplitl [R0]; · iexact R0
      iexact L0
    isplitl [R1 L1]
    · isplitl [R1]; · iexact R1
      iexact L1
    isplitl [R2 L2]
    · isplitl [R2]; · iexact R2
      iexact L2
    isplitl [R3]; · iexact R3
    iexact L3
  isplitl [F0]; · iexact F0
  isplitl [F1]; · iexact F1
  isplitl [G0]; · iexact G0
  iexact G1

/-- The arrivals expected, by part of the body. -/
theorem coming_parts : bigSep Finset.univ (coming (F := F) c)
    ⊢ iprop((bigSep Finset.univ fun q : Fin 4 => iprop(coming (F := F) c (.right q) ∗ coming c (.left q)))
      ∗ bigSep Finset.univ fun j : Fin 2 => iprop(coming (F := F) c (.fwdR j) ∗ coming c (.fwdL j))) := by
  rw [bigSep_sep', bigSep_sep', sep_legs, sep_four, sep_four, sep_two, sep_two]
  iintro ⟨HR, HL, HF, HG⟩
  isplitl [HR HL]
  · isplitl [HR]; · iexact HR
    iexact HL
  isplitl [HF]; · iexact HF
  iexact HG

/-- The copies by the quarter that they belong to. -/
theorem sep_quarters (Φ : Leg → sProp 𝕄) : bigSep Finset.univ Φ
    = iprop((bigSep Finset.univ fun q : Fin 4 => Φ (.right q)) ∗ (bigSep Finset.univ fun q : Fin 4 => Φ (.left q)) ∗ bigSep Finset.univ fun q : Fin 4 => Φ (fwdOf q)) := by
  rw [bigSep_univ_eq_bigSepL ([.right 0, .right 1, .right 2, .right 3] ++ ([.left 0, .left 1, .left 2, .left 3] ++ [.fwdR 0, .fwdR 1, .fwdL 0, .fwdL 1]))
    (by decide) (by decide), bigSepL_append, bigSepL_append, sep_four, sep_four, sep_four]
  rfl

/-- The narrowed rows whole again. -/
theorem join_rows :
    iprop((bigSep Finset.univ fun q => kept m ρ c q)
      ∗ (bigSep Finset.univ fun q : Fin 4 => owns (c : Thread nD τ) (srcM (.right q)) (shr (.right q)) (sent m ρ c (.right q)))
      ∗ (bigSep Finset.univ fun q : Fin 4 => owns (c : Thread nD τ) (srcM (.left q)) (shr (.left q)) (sent m ρ c (.left q)))) ⊢ held c x8M := by
  rw [← bigSep_sep', ← bigSep_sep']
  have h : (bigSep Finset.univ fun q : Fin 4 => held (F := F) c (quarter x8M q)) ⊢ held c x8M :=
    held_join c x8M rX (fun _ _ => rfl) rX_disjoint rX_cover
  exact BIBase.Entails.trans (bigSep_mono fun q _ => join_kept m ρ c q) h

/-- The two buffers of first arrivals whole again. -/
theorem join_arrived :
    iprop((bigSep Finset.univ fun q : Fin 4 => owns (c : Thread nD τ) (srcM (fwdOf q)) (shr (fwdOf q)) (sent m ρ c (fwdOf q)))
      ∗ (bigSep Finset.univ fun q => rest m ρ c q)
      ∗ (bigSep Finset.univ fun q => iprop(fromL m ρ c q fullShare.left ∗ fromR m ρ c q fullShare.left))) ⊢ iprop(held c r0M ∗ held c l0M) := by
  have hq (q : Fin 4) : iprop(owns (c : Thread nD τ) (srcM (fwdOf q)) (shr (fwdOf q)) (sent m ρ c (fwdOf q))
      ∗ rest m ρ c q ∗ fromL m ρ c q fullShare.left ∗ fromR m ρ c q fullShare.left)
      ⊢ iprop(held c (quarter r0M q) ∗ held c (quarter l0M q)) := by
    iintro ⟨Hs, Hr, Hl, Hl'⟩
    ihave H := (rest_join m ρ c q) $$ [Hs Hr]
    · isplitl [Hs]; · iexact Hs
      iexact Hr
    icases H with ⟨Hr, Hr'⟩
    unfold fromL fromR
    isplitl [Hl Hr]
    · iapply (held_halves c (quarter r0M q) (x8 m ρ (prv c) q))
      isplitl [Hl]; · iexact Hl
      iexact Hr
    · iapply (held_halves c (quarter l0M q) (x8 m ρ (nxt c) q))
      isplitl [Hl']; · iexact Hl'
      iexact Hr'
  have h₁ : (bigSep Finset.univ fun q : Fin 4 => held (F := F) c (quarter r0M q)) ⊢ held c r0M :=
    held_join c r0M rX (fun _ _ => rfl) rX_disjoint rX_cover
  have h₂ : (bigSep Finset.univ fun q : Fin 4 => held (F := F) c (quarter l0M q)) ⊢ held c l0M :=
    held_join c l0M rX (fun _ _ => rfl) rX_disjoint rX_cover
  rw [← bigSep_sep', ← bigSep_sep']
  refine BIBase.Entails.trans (bigSep_mono fun q _ => hq q) ?_
  rw [bigSep_sep']
  iintro ⟨H1, H2⟩
  isplitl [H1]
  · iapply h₁; iexact H1
  · iapply h₂; iexact H2

/-- The body. -/
theorem wp_prog (K : Dev nD × CellIx → ℕ) {Q : PUnit → sProp (MT nD τ sig Unit (Elt F) ℕ UU ℕ)} :
    iprop(records m ρ K ∗ levAts L lv ∗ before m ρ c) ⊢ iprop((after m ρ c -∗ Q ⟨⟩) -∗ wpc c (prog (nxt c) (prv c) (place c)) Q) := by
  unfold prog before scratch locals atBar
  iintro ⟨#Hrec, #Hlev, ⟨HbN, HbP, HbC, HbA⟩, HO, Htok, Hcom, ⟨H8, Hw8, Hwst, Hr0, Hr1, Hl0, Hl1, Hst⟩, ⟨⟨Hv0, Hv1⟩, Hu0, Hu1⟩, Hx, Hsc, Hw, Hout⟩ Hk
  -- the handshake
  ihave Hlend := (lend c) $$ [Hr0 Hr1 Hl0 Hl1]
  · isplitl [Hr0 Hl0]
    · isplitl [Hr0]; · iexact Hr0
      iexact Hl0
    isplitl [Hr1]; · iexact Hr1
    iexact Hl1
  iapply (wp_begin m ρ c K) $$ [Hlend HbN HbP HbC HbA HO Hsc]
  · isplitr; · iexact Hrec
    isplitr; · iexact Hlev
    isplitr [Hsc]
    · unfold atStart
      isplitl [Hlend]; · iexact Hlend
      isplitl [HbN]; · iexact HbN
      isplitl [HbP]; · iexact HbP
      isplitl [HbC]; · iexact HbC
      isplitl [HbA]; · iexact HbA
      iexact HO
    · iexact Hsc
  iintro ⟨Hlent, Hzb, HO, Hsc⟩
  ihave Hrd := (ready_parts c) $$ [Hlent Htok]
  · isplitl [Hlent]; · iexact Hlent
    iexact Htok
  icases Hrd with ⟨Hrd, Hfw⟩
  -- the rows
  ihave H8 := (show held (F := F) c x8M ⊢ bigSep Finset.univ fun q : Fin 4 => held c (quarter x8M q) from
    held_split c x8M rX (fun _ _ => rfl) rX_disjoint rX_cover) $$ H8
  iapply (wp_outs m ρ c K) $$ [Hx HO H8 Hrd]
  · isplitr; · iexact Hrec
    isplitl [Hx HO]
    · isplitl [Hx]; · iexact Hx
      iexact HO
    iapply (show iprop((bigSep Finset.univ fun q : Fin 4 => held (F := F) c (quarter x8M q))
        ∗ bigSep Finset.univ fun q : Fin 4 => iprop(ready (F := F) c (.right q) ∗ ready c (.left q))) ⊢ bigSep Finset.univ (outPre c) from
      Entails.of_eq (bigSep_sep' Finset.univ (fun q : Fin 4 => held (F := F) c (quarter x8M q)) fun q => iprop(ready (F := F) c (.right q) ∗ ready c (.left q))).symm)
    isplitl [H8]; · iexact H8
    iexact Hrd
  iintro ⟨⟨Hx, HO⟩, Hpost⟩
  ihave Hpost := (show bigSep Finset.univ (outPost m ρ c) ⊢ iprop((bigSep Finset.univ fun q => kept m ρ c q)
      ∗ (bigSep Finset.univ fun q : Fin 4 => leaving (F := F) c (.right q)) ∗ bigSep Finset.univ fun q : Fin 4 => leaving (F := F) c (.left q)) from by
    unfold outPost; rw [bigSep_sep', bigSep_sep']) $$ Hpost
  icases Hpost with ⟨Hkept, HleR, HleL⟩
  -- the weights
  ihave Hw := (show (owns (c : Thread nD τ) wM fullShare (weightsIn m ρ c) : sProp 𝕄) ⊢ bigSep Finset.univ (wIn m ρ c) from
    owns_rects (c : Thread nD τ) wM fullShare rW (fun _ _ => rfl) rW_disjoint rW_cover (weightsIn m ρ c)) $$ Hw
  ihave Hw8 := (show held (F := F) c w8M ⊢ bigSep Finset.univ fun b : Fin 16 => held c (w8Blk b) from
    held_split c w8M rW (fun _ _ => rfl) rW_disjoint rW_cover) $$ Hw8
  ihave Hwst := (split_slot c wstM) $$ Hwst
  icases Hwst with ⟨Hws0, Hws1⟩
  iapply (wp_weights m ρ c fwds) $$ [Hw Hw8 Hws0 Hws1 Hu0 Hu1 HO]
  · isplitr; · iexact Hlev
    isplitl [Hw]; · iexact Hw
    isplitl [Hw8]; · iexact Hw8
    unfold wFree
    isplitl [Hws0 Hu0]
    · isplitl [Hws0]; · iexact Hws0
      iexact Hu0
    isplitl [Hws1 Hu1]
    · isplitl [Hws1]; · iexact Hws1
      iexact Hu1
    iexact HO
  iintro ⟨Hw, Hw8, Hf0, Hf1, HO⟩
  -- the device's own products
  ihave Hout := ((split_out c).trans (Entails.of_eq (sep_pairs fun p : Fin 4 × Fin 4 => oTodo (F := F) c (rel c p.1) p.2))) $$ Hout
  icases Hout with ⟨HoC, ⟨HoP0, HoP1, HoP2, HoP3⟩, ⟨HoN0, HoN1, HoN2, HoN3⟩, ⟨HoF0, HoF1, HoF2, HoF3⟩⟩
  ihave Hst := (split_slot c stM) $$ Hst
  icases Hst with ⟨Hst0, Hst1⟩
  ihave Hkept := (Entails.of_eq (sep_four fun q => kept m ρ c q)) $$ Hkept
  iapply (wp_own m ρ c fwds) $$ [Hkept Hw8 Hst0 Hst1 Hv0 Hv1 HoC HO]
  · isplitr; · iexact Hlev
    isplitl [Hkept]; · iexact Hkept
    isplitl [Hw8]; · iexact Hw8
    unfold oFree
    isplitl [Hst0 Hv0]
    · isplitl [Hst0]; · iexact Hst0
      iexact Hv0
    isplitl [Hst1 Hv1]
    · isplitl [Hst1]; · iexact Hst1
      iexact Hv1
    isplitl [HoC]; · iexact HoC
    iexact HO
  iintro ⟨Hkept, Hw8, HdC0, HdC1, Hg0, Hg1, HO⟩
  -- the neighbours' products
  ihave Hcom := (coming_parts c) $$ Hcom
  icases Hcom with ⟨Hcom, Hfar⟩
  iapply (wp_hops m ρ c K) $$ [Hg0 Hg1 Hw8 HO Hcom Hfw HoP0 HoP1 HoP2 HoP3 HoN0 HoN1 HoN2 HoN3]
  · isplitr; · iexact Hrec
    isplitr; · iexact Hlev
    isplitl [Hg0 Hg1 Hw8]
    · unfold busy
      isplitl [Hg0]; · iexact Hg0
      isplitl [Hg1]; · iexact Hg1
      iexact Hw8
    isplitl [HO]; · iexact HO
    unfold hopPre
    rw [bigSep_sep' Finset.univ (fun q : Fin 4 => iprop(coming (F := F) c (.right q) ∗ coming c (.left q))),
      bigSep_sep' Finset.univ (fun q : Fin 4 => ready (F := F) c (fwdOf q)), sep_four (fun q => iprop(oTodo (F := F) c (prv c) q ∗ oTodo c (nxt c) q))]
    isplitl [Hcom]; · iexact Hcom
    isplitl [Hfw]; · iexact Hfw
    isplitl [HoP0 HoN0]
    · isplitl [HoP0]; · iexact HoP0
      iexact HoN0
    isplitl [HoP1 HoN1]
    · isplitl [HoP1]; · iexact HoP1
      iexact HoN1
    isplitl [HoP2 HoN2]
    · isplitl [HoP2]; · iexact HoP2
      iexact HoN2
    isplitl [HoP3]; · iexact HoP3
    iexact HoN3
  iintro ⟨Hb, HO, Hhop, ⟨HdC2, HdC3⟩, ⟨HdP0, HdN0⟩, ⟨HdP1, HdN1⟩, ⟨HdP2, HdN2⟩⟩
  -- the opposite device's products
  iapply (wp_fars m ρ c K) $$ [Hb HO Hfar HoF0 HoF1 HoF2 HoF3]
  · isplitr; · iexact Hrec
    isplitr; · iexact Hlev
    isplitl [Hb]; · iexact Hb
    isplitl [HO]; · iexact HO
    unfold farPre
    rw [bigSep_sep' Finset.univ (fun j : Fin 2 => iprop(coming (F := F) c (.fwdR j) ∗ coming c (.fwdL j))),
      sep_two (fun j => iprop(oTodo (F := F) c (opp c) (lo j) ∗ oTodo c (opp c) (hi j)))]
    isplitl [Hfar]; · iexact Hfar
    isplitl [HoF0 HoF2]
    · isplitl [HoF0]; · iexact HoF0
      iexact HoF2
    isplitl [HoF1]; · iexact HoF1
    iexact HoF3
  iintro ⟨Hb, HO, Hreach, ⟨HdP3, HdN3⟩, ⟨HdF0, HdF2⟩⟩
  -- the end
  ihave Hhop := (show bigSep Finset.univ (hopPost m ρ c) ⊢ iprop(bigSep Finset.univ (hopped m ρ c) ∗ (bigSep Finset.univ fun q => rest m ρ c q)
      ∗ bigSep Finset.univ fun q : Fin 4 => leaving (F := F) c (fwdOf q)) from by
    unfold hopPost; rw [bigSep_sep', bigSep_sep']) $$ Hhop
  icases Hhop with ⟨Hhop, Hrest, HleF⟩
  iapply (wp_finish m ρ c K) $$ [Hb HO HleR HleL HleF]
  · isplitr; · iexact Hrec
    isplitr; · iexact Hlev
    isplitl [Hb]; · iexact Hb
    isplitl [HO]; · iexact HO
    rw [sep_quarters]
    isplitl [HleR]; · iexact HleR
    isplitl [HleL]; · iexact HleL
    iexact HleF
  iintro ⟨Hgone, ⟨HdF1, HdF3⟩, ⟨Ho0, Ho1⟩, Hw8, HO⟩
  ihave Hgone := (show bigSep Finset.univ (gone m ρ c) ⊢ iprop((bigSep Finset.univ fun t => owns (c : Thread nD τ) (srcM t) (shr t) (sent m ρ c t))
      ∗ bigSep Finset.univ fun t : Leg => semVal (sendCell c t) 0) from by
    unfold gone; rw [bigSep_sep']) $$ Hgone
  icases Hgone with ⟨Hsrc, HzS⟩
  ihave Hsrc := (Entails.of_eq (sep_quarters fun t => owns (c : Thread nD τ) (srcM t) (shr t) (sent m ρ c t))) $$ Hsrc
  icases Hsrc with ⟨HsR, HsL, HsF⟩
  ihave H8 := (join_rows m ρ c) $$ [Hkept HsR HsL]
  · isplitl [Hkept]; · rw [sep_four]; iexact Hkept
    isplitl [HsR]; · iexact HsR
    iexact HsL
  ihave Hhop := (show bigSep Finset.univ (hopped m ρ c) ⊢ iprop((bigSep Finset.univ fun q => iprop(fromL m ρ c q fullShare.left ∗ fromR m ρ c q fullShare.left))
      ∗ (bigSep Finset.univ fun q : Fin 4 => semVal (recvCell c (.right q)) 0) ∗ bigSep Finset.univ fun q : Fin 4 => semVal (recvCell c (.left q)) 0) from by
    unfold hopped
    rw [bigSep_sep' Finset.univ (fun q => iprop(fromL m ρ c q fullShare.left ∗ fromR m ρ c q fullShare.left)),
      bigSep_sep' Finset.univ (fun q : Fin 4 => semVal (recvCell c (.right q)) 0)]) $$ Hhop
  icases Hhop with ⟨Hhop, HzR, HzL⟩
  ihave H0 := (join_arrived m ρ c) $$ [HsF Hrest Hhop]
  · isplitl [HsF]; · iexact HsF
    isplitl [Hrest]; · iexact Hrest
    iexact Hhop
  icases H0 with ⟨Hr0, Hl0⟩
  unfold reachedFar
  ihave Hreach := (Entails.of_eq (sep_two fun j : Fin 2 => iprop((held (F := F) c (half r1M j) ∗ held c (half l1M j)) ∗ semVal (recvCell c (.fwdR j)) 0 ∗ semVal (recvCell c (.fwdL j)) 0))) $$ Hreach
  icases Hreach with ⟨⟨⟨Hr10, Hl10⟩, HzFR0, HzFL0⟩, ⟨Hr11, Hl11⟩, HzFR1, HzFL1⟩
  ihave Hr1 := (join_half c r1M) $$ [Hr10 Hr11]
  · isplitl [Hr10]; · iexact Hr10
    iexact Hr11
  ihave Hl1 := (join_half c l1M) $$ [Hl10 Hl11]
  · isplitl [Hl10]; · iexact Hl10
    iexact Hl11
  unfold wFree oFree
  icases Hf0 with ⟨Hws0, Hu0⟩
  icases Hf1 with ⟨Hws1, Hu1⟩
  icases Ho0 with ⟨Hst0, Hv0⟩
  icases Ho1 with ⟨Hst1, Hv1⟩
  ihave Hwst := (join_slot c wstM) $$ [Hws0 Hws1]
  · isplitl [Hws0]; · iexact Hws0
    iexact Hws1
  ihave Hst := (join_slot c stM) $$ [Hst0 Hst1]
  · isplitl [Hst0]; · iexact Hst0
    iexact Hst1
  ihave Hw8 := (show wAll m ρ c ⊢ held c w8M from held_of c w8M (w8 m ρ c)) $$ Hw8
  ihave Hw := (show bigSep Finset.univ (wIn m ρ c) ⊢ (owns (c : Thread nD τ) wM fullShare (weightsIn m ρ c) : sProp 𝕄) from
    owns_of_rects (c : Thread nD τ) wM fullShare rW (fun _ _ => rfl) rW_disjoint rW_cover (weightsIn m ρ c)) $$ Hw
  ihave Hout := (join_out m ρ c) $$ [HdC0 HdC1 HdC2 HdC3 HdP0 HdP1 HdP2 HdP3 HdN0 HdN1 HdN2 HdN3 HdF0 HdF1 HdF2 HdF3]
  · rw [sep_pairs]
    isplitl [HdC0 HdC1 HdC2 HdC3]
    · isplitl [HdC0]; · iexact HdC0
      isplitl [HdC1]; · iexact HdC1
      isplitl [HdC2]; · iexact HdC2
      iexact HdC3
    isplitl [HdP0 HdP1 HdP2 HdP3]
    · isplitl [HdP0]; · iexact HdP0
      isplitl [HdP1]; · iexact HdP1
      isplitl [HdP2]; · iexact HdP2
      iexact HdP3
    isplitl [HdN0 HdN1 HdN2 HdN3]
    · isplitl [HdN0]; · iexact HdN0
      isplitl [HdN1]; · iexact HdN1
      isplitl [HdN2]; · iexact HdN2
      iexact HdN3
    isplitl [HdF0]; · iexact HdF0
    isplitl [HdF1]; · iexact HdF1
    isplitl [HdF2]; · iexact HdF2
    iexact HdF3
  unfold wpc
  rw [wp_ret]; imodintro
  iapply Hk
  unfold after locals scratch
  isplitl [Hzb]; · iexact Hzb
  isplitl [HzS]; · iexact HzS
  isplitl [HzR HzL HzFR0 HzFR1 HzFL0 HzFL1]
  · rw [sep_quarters, sep_four (fun q => semVal (recvCell c (fwdOf q)) 0)]
    isplitl [HzR]; · iexact HzR
    isplitl [HzL]; · iexact HzL
    isplitl [HzFR0]; · iexact HzFR0
    isplitl [HzFR1]; · iexact HzFR1
    isplitl [HzFL0]; · iexact HzFL0
    iexact HzFL1
  isplitl [Hv0 Hv1 Hu0 Hu1]
  · isplitl [Hv0 Hv1]
    · isplitl [Hv0]; · iexact Hv0
      iexact Hv1
    isplitl [Hu0]; · iexact Hu0
    iexact Hu1
  isplitl [H8 Hw8 Hwst Hr0 Hr1 Hl0 Hl1 Hst]
  · isplitl [H8]; · iexact H8
    isplitl [Hw8]; · iexact Hw8
    isplitl [Hwst]; · iexact Hwst
    isplitl [Hr0]; · iexact Hr0
    isplitl [Hr1]; · iexact Hr1
    isplitl [Hl0]; · iexact Hl0
    isplitl [Hl1]; · iexact Hl1
    iexact Hst
  isplitl [HO]; · iexact HO
  isplitl [Hx]; · iexact Hx
  isplitl [Hsc]; · iexact Hsc
  isplitl [Hw]; · iexact Hw
  iexact Hout

end Device

end Cert.RingMatmul

end
-- ==== Proof.Launch.lean ====
/- The launch: the protocol's resources dealt to the devices, the kernel's body handed to the pipeline,
   and the run of the whole program. -/
module

public import proofs.«01_k».proof.Proof.Whole
public import Idealize.ShloMosaic.Lib.Pipeline.CollectiveSegs
public import Idealize.ShloMosaic.Lib.Quiescent

@[expose] public section

noncomputable section

namespace Cert.RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! ## What the launch deals -/

/-- The kernel's own semaphores: the remote copies', and the local ones (the result's, the weights'). -/
abbrev OwnIx : Type := (Bool × Leg) ⊕ (Bool × Fin 2)

def osem : OwnIx → SemLoc sig
  | .inl p => csem (some p)
  | .inr (false, s) => .dma (outS s)
  | .inr (true, s) => .dma (wS s)

theorem ownSemFacts : Pipeline.OwnSemFacts cfg0.spec osem := by decide +kernel

def ringCells : Finset (GSem nD τ sig) := Finset.univ.map ⟨kcell, kcell_injective⟩

/-- A device's duties: its barrier's two, and one for each semaphore of a remote copy. -/
abbrev DutyIx : Type := Bool ⊕ (Bool × Leg)

def dutyOf : Dev nD × DutyIx → GSem nD τ sig × ℕ × Bool
  | (c, .inl b) => (barCell c, 0, b)
  | (c, .inr p) => (kcell (c, some p), 0, false)

theorem dutyOf_injective : Function.Injective dutyOf := by
  rintro ⟨c, a⟩ ⟨c', a'⟩ h
  have hb : (dutyOf (c, a)).2.2 = (dutyOf (c', a')).2.2 := congrArg (fun x => x.2.2) h
  have hk : (dutyOf (c, a)).1 = (dutyOf (c', a')).1 := congrArg (fun x => x.1) h
  rcases a with b | p <;> rcases a' with b' | p'
  · have e : (c, (none : CellIx)) = (c', none) := kcell_injective hk
    have e' : b = b' := hb
    rw [(Prod.mk.inj e).1, e']
  · have e : (c, (none : CellIx)) = (c', some p') := kcell_injective hk
    exact absurd (Prod.mk.inj e).2 (by simp)
  · have e : (c, (some p : CellIx)) = (c', none) := kcell_injective hk
    exact absurd (Prod.mk.inj e).2 (by simp)
  · have e : (c, (some p : CellIx)) = (c', some p') := kcell_injective hk
    have e' := Prod.mk.inj e
    rw [e'.1, Option.some.inj e'.2]

def ringToks : Finset (GSem nD τ sig × ℕ × Bool) := Finset.univ.map ⟨dutyOf, dutyOf_injective⟩

def u₀ : UU :=
  (initOf (Pipeline.cells cfgs cellOf_inj) (Pipeline.launchToks cfgs cellOf_inj), (initOf ringCells ringToks, 1))

/-- A device's cells one kind after another. -/
theorem sep_copies (Φ : Bool × Leg → sProp 𝕄) : bigSep Finset.univ Φ
    = iprop((bigSep Finset.univ fun t => Φ (false, t)) ∗ bigSep Finset.univ fun t => Φ (true, t)) := by
  rw [bigSep_univ_prod, bigSep_univ_eq_bigSepL [false, true] (by decide) (by decide), bigSepL_cons_cons, bigSepL_singleton]
  rfl
theorem sep_cells (Φ : CellIx → sProp 𝕄) : bigSep Finset.univ Φ
    = iprop(Φ none ∗ (bigSep Finset.univ fun t => Φ (some (false, t))) ∗ bigSep Finset.univ fun t => Φ (some (true, t))) := by
  rw [bigSep_univ_equiv ((Equiv.sumComm Unit (Bool × Leg)).trans (Equiv.optionEquivSumPUnit (Bool × Leg)).symm), BI.bigSep_univ_sum,
    bigSep_univ_eq_bigSepL [()] (by decide) (by decide), bigSepL_singleton, sep_copies]
  rfl

section Deal
variable (c : Dev nD)

/-- The duties of device `c`'s own cells; -/
def duties : sProp 𝕄 :=
  iprop((dutyTok ER (barCell c) 0 false ∗ dutyTok ER (barCell c) 0 true)
    ∗ (bigSep Finset.univ fun t : Leg => dutyTok ER (sendCell c t) 0 false) ∗ bigSep Finset.univ fun t : Leg => dutyTok ER (recvCell c t) 0 false)
/-- the duties device `c` pays. -/
def pays : sProp 𝕄 :=
  iprop((dutyTok ER (barCell (nxt c)) 0 false ∗ dutyTok ER (barCell (prv c)) 0 true)
    ∗ (bigSep Finset.univ fun t : Leg => dutyTok ER (sendCell c t) 0 false) ∗ bigSep Finset.univ fun t : Leg => dutyTok ER (recvCell (tgt t c) t) 0 false)
def positions : sProp 𝕄 := bigSep Finset.univ fun k : CellIx => atPos ER (kcell (c, k)) 0 ∅ 0
def marks : sProp 𝕄 := bigSep Finset.univ fun k : CellIx => reached ER (kcell (c, k)) 0

def G : sProp 𝕄 :=
  iprop((bigSep Finset.univ fun k : CellIx => roundState ER (ringRd m ρ) (kcell (c, k)) 0) ∗ positions c ∗ marks c ∗ duties c)

/-- What device `c` has after the launch's one step for all devices. -/
def G' : sProp 𝕄 := iprop((∃ K, records m ρ K) ∗ positions c ∗ pays c ∗ locals c)

end Deal

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CellIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => duties c := by
    unfold ringToks; rw [bigSep_map, bigSep_univ_prod]
    refine bigSep_congr fun c _ => ?_
    rw [BI.bigSep_univ_sum, sep_copies, bigSep_univ_eq_bigSepL [false, true] (by decide) (by decide), bigSepL_cons_cons, bigSepL_singleton]
    rfl
  iintro HX
  imod (Rounds.fund ER (ringRd m ρ) ringCells ringToks) $$ HX with ⟨Hst, Hr, Hat, Htok⟩
  imodintro
  ihave Hst := (Entails.of_eq (hX fun g => roundState ER (ringRd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G positions marks
  rw [bigSep_sep', bigSep_sep', bigSep_sep']
  isplitl [Hst]; · iexact Hst
  isplitl [Hat]; · iexact Hat
  isplitl [Hr]; · iexact Hr
  iexact Htok

theorem ownSems0_eq (c : Dev nD) : (Pipeline.ownSems0 (Ix := Unit) (Name := ℕ) (U := UU) (Lvl := ℕ) (Val := Elt F) (τ := τ) osem c : sProp 𝕄)
    = iprop(((bigSep Finset.univ fun t : Leg => semVal (sendCell c t) 0) ∗ bigSep Finset.univ fun t : Leg => semVal (recvCell c t) 0) ∗ locals c) := by
  unfold Pipeline.ownSems0
  rw [BI.bigSep_univ_sum, sep_copies, bigSep_univ_eq_bigSepL (I := Bool × Fin 2) [(false, 0), (false, 1), (true, 0), (true, 1)] (by decide) (by decide),
    bigSepL_cons_cons, bigSepL_cons_cons, bigSepL_cons_cons, bigSepL_singleton]
  have e : iprop(semVal ((c.tc : Thread nD τ), osem (.inr (false, 0))) 0 ∗ semVal ((c.tc : Thread nD τ), osem (.inr (false, 1))) 0
      ∗ semVal ((c.tc : Thread nD τ), osem (.inr (true, 0))) 0 ∗ semVal ((c.tc : Thread nD τ), osem (.inr (true, 1))) 0) = (locals c : sProp 𝕄) := by
    unfold locals
    refine eq_of_entails ?_ ?_
    · iintro ⟨H0, H1, H2, H3⟩
      isplitl [H0 H1]
      · isplitl [H0]; · iexact H0
        iexact H1
      isplitl [H2]; · iexact H2
      iexact H3
    · iintro ⟨⟨H0, H1⟩, H2, H3⟩
      isplitl [H0]; · iexact H0
      isplitl [H1]; · iexact H1
      isplitl [H2]; · iexact H2
      iexact H3
  rw [← e]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

/-- The cells of one device become shared. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CellIx => iprop(∃ κ : ℕ, cellInv ER (ringRd m ρ) κ (kcell (c, k)))) ∗ marks c
          ∗ positions c ∗ duties c ∗ locals c) := by
  rw [ownSems0_eq, unscopedSems0_eq]
  unfold G
  iintro ⟨⟨⟨HS, HR⟩, Hl⟩, HB, Hst, Hat, Hm, Htok⟩
  imod (show iprop((bigSep Finset.univ fun k : CellIx => semVal (kcell (c, k)) 0) ∗ bigSep Finset.univ fun k : CellIx => roundState ER (ringRd m ρ) (kcell (c, k)) 0)
      ⊢ (|={Set.univ}=> bigSep Finset.univ fun k : CellIx => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [HS HR HB Hst] with Hinv
  · isplitr [Hst]
    · rw [sep_cells]
      isplitl [HB]; · iexact HB
      isplitl [HS]; · iexact HS
      iexact HR
    · iexact Hst
  imodintro
  isplitl [Hinv]; · iexact Hinv
  isplitl [Hm]; · iexact Hm
  isplitl [Hat]; · iexact Hat
  isplitl [Htok]; · iexact Htok
  iexact Hl

/-- A step to one side, as a permutation of the devices. -/
def sideEquiv (b : Bool) : Dev nD ≃ Dev nD :=
  ⟨side b, side (!b), side_side b, fun c => by have h := side_side (!b) c; rwa [Bool.not_not] at h⟩

/-- Each device's duties handed to the device that pays them. -/
theorem deal_duties : (bigSep Finset.univ fun c : Dev nD => (duties c : sProp 𝕄)) = bigSep Finset.univ fun c : Dev nD => pays c := by
  have hswap (Φ : Dev nD → Leg → sProp 𝕄) : (bigSep Finset.univ fun c => bigSep Finset.univ fun t => Φ c t) = bigSep Finset.univ fun t => bigSep Finset.univ fun c => Φ c t :=
    BI.bigSep_univ_comm Φ
  have hrecv : (bigSep Finset.univ fun c : Dev nD => bigSep Finset.univ fun t : Leg => (dutyTok ER (recvCell c t) 0 false : sProp 𝕄))
      = bigSep Finset.univ fun c : Dev nD => bigSep Finset.univ fun t : Leg => dutyTok ER (recvCell (tgt t c) t) 0 false := by
    rw [hswap, hswap]
    exact bigSep_congr fun t _ => bigSep_univ_equiv (sideEquiv t.goesRight) fun c : Dev nD => (dutyTok ER (recvCell c t) 0 false : sProp 𝕄)
  unfold duties pays
  rw [bigSep_sep', bigSep_sep', bigSep_sep', bigSep_sep', bigSep_sep', bigSep_sep', hrecv,
    bigSep_univ_equiv ring (fun c : Dev nD => (dutyTok ER (barCell c) 0 false : sProp 𝕄)),
    bigSep_univ_equiv ring.symm (fun c : Dev nD => (dutyTok ER (barCell c) 0 true : sProp 𝕄))]
  rfl

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) := by
  have hI : (bigSep Finset.univ fun c : Dev nD => bigSep Finset.univ fun k : CellIx => iprop(∃ κ : ℕ, cellInv ER (ringRd m ρ) κ (kcell (c, k))) : sProp 𝕄)
      = bigSep Finset.univ fun ck : Dev nD × CellIx => iprop(∃ κ : ℕ, cellInv ER (ringRd m ρ) κ (kcell ck)) :=
    (bigSep_univ_prod (fun ck : Dev nD × CellIx => (iprop(∃ κ : ℕ, cellInv ER (ringRd m ρ) κ (kcell ck)) : sProp 𝕄))).symm
  have hR : (bigSep Finset.univ fun c : Dev nD => marks c : sProp 𝕄) = bigSep Finset.univ fun ck : Dev nD × CellIx => reached ER (kcell ck) 0 := by
    unfold marks; exact (bigSep_univ_prod (fun ck : Dev nD × CellIx => (reached ER (kcell ck) 0 : sProp 𝕄))).symm
  have key : iprop((bigSep Finset.univ fun ck : Dev nD × CellIx => iprop(∃ κ : ℕ, cellInv ER (ringRd m ρ) κ (kcell ck)))
      ∗ (bigSep Finset.univ fun ck : Dev nD × CellIx => reached ER (kcell ck) 0)
      ∗ (bigSep Finset.univ fun c : Dev nD => positions c) ∗ (bigSep Finset.univ fun c : Dev nD => pays c) ∗ bigSep Finset.univ fun c : Dev nD => locals c)
      ⊢ (bigSep Finset.univ (G' m ρ) : sProp 𝕄) := by
    iintro ⟨HI, HR, Hat, Hp, Hl⟩
    ihave HK := (BI.bigSep_exists_pi Finset.univ (fun (ck : Dev nD × CellIx) (κ : ℕ) => (cellInv ER (ringRd m ρ) κ (kcell ck) : sProp 𝕄))) $$ HI
    icases HK with ⟨%K, HI⟩
    ihave Hrec := (show iprop((bigSep Finset.univ fun ck : Dev nD × CellIx => cellInv ER (ringRd m ρ) (K ck) (kcell ck))
        ∗ bigSep Finset.univ fun ck : Dev nD × CellIx => reached ER (kcell ck) 0) ⊢ records m ρ K from by
      unfold records; rw [bigSep_sep']) $$ [HI HR]
    · isplitl [HI]; · iexact HI
      iexact HR
    icases Hrec with #Hrec
    ihave Hrecs := (BI.bigSep_of_persistent (Finset.univ : Finset (Dev nD)) (records m ρ K)) $$ Hrec
    ihave Hex := (show (bigSep Finset.univ fun _ : Dev nD => records m ρ K : sProp 𝕄) ⊢ bigSep Finset.univ fun _ : Dev nD => iprop(∃ K, records m ρ K) from
      bigSep_mono fun c _ => show records m ρ K ⊢ iprop(∃ K, records m ρ K) from by iintro H; iexists K; iexact H) $$ Hrecs
    unfold G'
    rw [bigSep_sep', bigSep_sep', bigSep_sep']
    isplitl [Hex]; · iexact Hex
    isplitl [Hat]; · iexact Hat
    isplitl [Hp]; · iexact Hp
    iexact Hl
  have all := (bigSep_mono (s := Finset.univ) fun c _ => core_alloc m ρ c).trans (bigSep_fupd _ _)
  have e : (bigSep Finset.univ fun c : Dev nD => iprop((bigSep Finset.univ fun k : CellIx => iprop(∃ κ : ℕ, cellInv ER (ringRd m ρ) κ (kcell (c, k)))) ∗ marks c
      ∗ positions c ∗ duties c ∗ locals c) : sProp 𝕄)
      = iprop((bigSep Finset.univ fun ck : Dev nD × CellIx => iprop(∃ κ : ℕ, cellInv ER (ringRd m ρ) κ (kcell ck)))
      ∗ (bigSep Finset.univ fun ck : Dev nD × CellIx => reached ER (kcell ck) 0)
      ∗ (bigSep Finset.univ fun c : Dev nD => positions c) ∗ (bigSep Finset.univ fun c : Dev nD => pays c) ∗ bigSep Finset.univ fun c : Dev nD => locals c) := by
    rw [bigSep_sep', bigSep_sep', bigSep_sep', bigSep_sep', hI, hR, deal_duties]
  exact all.trans (BI.fupd_mono ((Entails.of_eq e).trans key))

/-! ## The credits -/

theorem credit_owed (c : Dev nD) : ∀ l : List Leg,
    (Pipeline.launchCred (fun d => owed d l) c : sProp 𝕄) ⊢ bigSepL l fun t => cred (tallyAt (recvCell c t) () N)
  | [] => by
    have e : (fun d : Dev nD => owed d []) = fun _ => (0 : CellTallies nD τ sig Unit) := rfl
    rw [e, Pipeline.launchCred_zero]
    exact .rfl
  | t :: l => by
    have e : (fun d : Dev nD => owed d (t :: l)) = fun d => owed d l + tallyAt (recvCell (tgt t d) t) () N := rfl
    rw [e, Pipeline.launchCred_add, bigSepL_cons']
    iintro ⟨Hl, Ht⟩
    isplitl [Ht]
    · iapply (Pipeline.launchCred_tallyAt (.dma (recvS t)) (tgt t) (side (!t.goesRight)) (sideEquiv t.goesRight).apply_symm_apply (side_side t.goesRight) () N c)
      iexact Ht
    · iapply (credit_owed c l); iexact Hl

theorem credits (c : Dev nD) : (Pipeline.launchCred O₀ c : sProp 𝕄)
    ⊢ iprop(cred (tallyAt (barCell c) () 2) ∗ bigSep Finset.univ fun t : Leg => cred (tallyAt (recvCell c t) () N)) := by
  have e : (O₀ : Dev nD → CellTallies nD τ sig Unit) = fun d => (owed d sends + tallyAt (barCell (nxt d)) () 1) + tallyAt (barCell (prv d)) () 1 := rfl
  rw [e, Pipeline.launchCred_add, Pipeline.launchCred_add, bigSep_univ_eq_bigSepL sends (by decide) (by decide),
    show (2 : ℕ) = 1 + 1 from rfl, ← tallyAt_add]
  iintro ⟨⟨Hs, Hn⟩, Hp⟩
  isplitr [Hs]
  · iapply (cred_add (tallyAt (barCell c) () 1) (tallyAt (barCell c) () 1)).2
    isplitl [Hn]
    · iapply (Pipeline.launchCred_tallyAt (.reg barS) nxt prv nxt_prv prv_nxt () 1 c); iexact Hn
    · iapply (Pipeline.launchCred_tallyAt (.reg barS) prv nxt prv_nxt nxt_prv () 1 c); iexact Hp
  · iapply (credit_owed c sends); iexact Hs

/-! ## The pipeline's proof data -/

theorem fin_N (t : Fin cfg0.N) : t = t0_0 := fin_N0 t

section Data
variable (c : Dev nD)

def start : sProp 𝕄 :=
  iprop(G' m ρ c ∗ (cred (tallyAt (barCell c) () 2) ∗ bigSep Finset.univ fun t : Leg => cred (tallyAt (recvCell c t) () N)) ∗ levAts L lv
    ∗ owns (c : Thread nD τ) wM fullShare (weightsIn m ρ c) ∗ held c outM)

def Φ₀ : sProp 𝕄 := iprop(start m ρ c ∗ scratch c)

def ends : sProp 𝕄 :=
  iprop(semVal (barCell c) 0 ∗ owns (c : Thread nD τ) wM fullShare (weightsIn m ρ c) ∗ owns (c : Thread nD τ) outM fullShare (outF m ρ c))

def Φ₁ : sProp 𝕄 :=
  iprop(ends m ρ c
    ∗ (((bigSep Finset.univ fun t : Leg => semVal (sendCell c t) 0) ∗ bigSep Finset.univ fun t : Leg => semVal (recvCell c t) 0) ∗ locals c)
    ∗ scratch c)

end Data

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => rowsIn m ρ c
    | ⟨1, _⟩ => scaleX m ρ c
    | ⟨2, _⟩ => scaleW m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

/-- The body as the pipeline's obligation. -/
def bodyPre (c : Dev nD) : sProp 𝕄 :=
  iprop(Φ₀ m ρ c ∗ (dats m ρ 0 c).owesAt () t0_0.castSucc
    ∗ (∃ d, owns (c : Thread nD τ) xM fullShare ((dats m ρ 0 c).before (0 : Fin 3) t0_0 d))
    ∗ (∃ d, owns (c : Thread nD τ) sxM fullShare ((dats m ρ 0 c).before (1 : Fin 3) t0_0 d))
    ∗ (∃ d, owns (c : Thread nD τ) swM fullShare ((dats m ρ 0 c).before (2 : Fin 3) t0_0 d)))

def bodyPost (c : Dev nD) : sProp 𝕄 :=
  iprop(Φ₁ m ρ c ∗ (dats m ρ 0 c).owesAt () t0_0.succ ∗ owns (c : Thread nD τ) xM fullShare (rowsIn m ρ c)
    ∗ owns (c : Thread nD τ) sxM fullShare (scaleX m ρ c) ∗ owns (c : Thread nD τ) swM fullShare (scaleW m ρ c))

theorem body_before (c : Dev nD) : bodyPre m ρ c ⊢ iprop(∃ K, records m ρ K ∗ levAts L lv ∗ before m ρ c) := by
  have before_x d : (dats m ρ 0 c).before (0 : Fin 3) t0_0 d = rowsIn m ρ c := by unfold Dat.before; rw [if_pos (fetch0_0 t0_0)]; rfl
  have before_sx d : (dats m ρ 0 c).before (1 : Fin 3) t0_0 d = scaleX m ρ c := by unfold Dat.before; rw [if_pos (fetch0_1 t0_0)]; rfl
  have before_sw d : (dats m ρ 0 c).before (2 : Fin 3) t0_0 d = scaleW m ρ c := by unfold Dat.before; rw [if_pos (fetch0_2 t0_0)]; rfl
  unfold bodyPre Φ₀ start G' positions pays Dat.owesAt Pipeline.owesWithin before atBar scales
  simp only [before_x, before_sx, before_sw]
  rw [show (dats m ρ 0 c).owed t0_0.castSucc = O₀ c from rfl, sep_cells]
  iintro ⟨⟨⟨⟨⟨%K, Hrec⟩, ⟨HaB, HaS, HaR⟩, ⟨⟨HtN, HtP⟩, HtS, HtR⟩, Hloc⟩, ⟨HcB, HcR⟩, Hlev, Hw, Hout⟩, Hscr⟩, ⟨%W, %hW, HO⟩, ⟨%dx, Hx⟩, ⟨%dsx, Hsx⟩, ⟨%dsw, Hsw⟩⟩
  iexists K
  isplitl [Hrec]; · iexact Hrec
  isplitl [Hlev]; · iexact Hlev
  isplitl [HtN HtP HcB HaB]
  · isplitl [HtN]; · iexact HtN
    isplitl [HtP]; · iexact HtP
    isplitl [HcB]; · iexact HcB
    iexact HaB
  isplitl [HO]; · iexists W; iexact HO
  isplitl [HtS HtR HaS]
  · unfold tokens
    rw [bigSep_sep', bigSep_sep']
    isplitl [HtS]; · iexact HtS
    isplitl [HtR]; · iexact HtR
    iexact HaS
  isplitl [HcR HaR]
  · unfold coming
    rw [bigSep_sep']
    isplitl [HcR]; · iexact HcR
    iexact HaR
  isplitl [Hscr]; · iexact Hscr
  isplitl [Hloc]; · iexact Hloc
  isplitl [Hx]; · iexact Hx
  isplitl [Hsx Hsw]
  · isplitl [Hsx]; · iexact Hsx
    iexact Hsw
  isplitl [Hw]; · iexact Hw
  iexact Hout

theorem body_after (c : Dev nD) : after m ρ c ⊢ bodyPost m ρ c := by
  unfold bodyPost after Φ₁ ends Dat.owesAt Pipeline.owesWithin due scales
  rw [show (dats m ρ 0 c).owed t0_0.succ = 0 from rfl]
  iintro ⟨Hb, Hs, Hr, Hloc, Hscr, ⟨%W, HO⟩, Hx, ⟨Hsx, Hsw⟩, Hw, Hout⟩
  isplitl [Hb Hs Hr Hloc Hscr Hw Hout]
  · isplitl [Hb Hw Hout]
    · isplitl [Hb]; · iexact Hb
      isplitl [Hw]; · iexact Hw
      iexact Hout
    isplitl [Hs Hr Hloc]
    · isplitr [Hloc]
      · isplitl [Hs]; · iexact Hs
        iexact Hr
      iexact Hloc
    iexact Hscr
  isplitl [HO]
  · iexists W
    isplitr; · ipureintro; exact fun _ _ => Or.inl trivial
    iexact HO
  isplitl [Hx]; · iexact Hx
  isplitl [Hsx]; · iexact Hsx
  iexact Hsw

/-- A run that hands its end to a continuation, given the continuation. -/
theorem with_end {I : Type} {A B C : sProp 𝕄} {P : I → sProp 𝕄} {R : sProp 𝕄} (hA : A ⊢ iprop(∃ i, P i)) (hP : ∀ i, P i ⊢ iprop((B -∗ R) -∗ C)) (hB : B ⊢ R) :
    A ⊢ C := by
  iintro H
  ihave H := hA $$ H
  icases H with ⟨%i, H⟩
  iapply (hP i) $$ H
  iintro HB
  iapply hB
  iexact HB

theorem sound_prog (c : Dev nD) : bodyPre m ρ c ⊢ wpc c (prog (nxt c) (prv c) (place c)) (fun _ => bodyPost m ρ c) := by
  have h (K) := wp_prog m ρ c K (Q := fun _ => bodyPost m ρ c)
  generalize wpc c (prog (nxt c) (prv c) (place c)) (fun _ => bodyPost m ρ c) = C at h ⊢
  exact with_end (body_before m ρ c) h (body_after m ρ c)

theorem wp_device (c : Dev nD) (k : Dev nD → Prog (TpuEff nD τ sig (Elt F) Λ₀ .tc) PUnit) (Q : PUnit → sProp (MT nD τ sig Unit (Elt F) ℕ UU ℕ)) :
    wpc c (k c) Q ⊢ wpc c (.op .deviceId k) Q := by
  simp only [wp_deviceId]
  exact .rfl

theorem sound_body (c : Dev nD) : bodyPre m ρ c ⊢ wpc c (.op .deviceId fun c => prog ⟨k0_dev2 c, k0_dev2_lt c⟩ ⟨k0_dev1 c, k0_dev1_lt c⟩ (printedPlace c)) (fun _ => bodyPost m ρ c) := by
  refine BIBase.Entails.trans ?_ (wp_device c (fun c => prog ⟨k0_dev2 c, k0_dev2_lt c⟩ ⟨k0_dev1 c, k0_dev1_lt c⟩ (printedPlace c)) _)
  have h := sound_prog m ρ c
  have e : prog (F := F) ⟨k0_dev2 c, k0_dev2_lt c⟩ ⟨k0_dev1 c, k0_dev1_lt c⟩ (printedPlace c) = prog (nxt c) (prv c) (place c) := prog_printed c
  beta_reduce
  rw [e]
  exact h

theorem stage_x : (cfg0.win 0).stage (cfg0.slots t0_0 0) = xM := rfl
theorem stage_sx : (cfg0.win 1).stage (cfg0.slots t0_0 1) = sxM := rfl
theorem stage_sw : (cfg0.win 2).stage (cfg0.slots t0_0 2) = swM := rfl
theorem body_call : (defs₀ (F := F)) Proc.tc cfg0.body (cfg0.bodyArgs t0_0 (cfg0.slots t0_0)) = bodyAt0 t0_0 := rfl
theorem body_at : bodyAt0 (F := F) t0_0 = cc0_body (F := F) (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 := rfl

set_option maxRecDepth 8000 in
theorem body_obligation (c : Dev nD) : BodyObligation (dats (F := F) m ρ 0 c) (defs₀ (F := F)) 𝒱₀ () Set.univ := fun t => by
  rw [fin_N t]
  rw [bigSep_W0 (fun w : Fin cfg0.W => _), bigSep_W0 (fun w : Fin cfg0.W => _)]
  have h := sound_body m ρ c
  rw [← body_eq, ← body_at, ← body_call] at h
  unfold wpc at h
  generalize (defs₀ (F := F)) Proc.tc cfg0.body (cfg0.bodyArgs t0_0 (cfg0.slots t0_0)) = p at h ⊢
  refine BIBase.Entails.trans ?_ h
  exact .rfl

/-! ## The run -/

theorem scratch_eq (c : Dev nD) : (Pipeline.scopedRest (Ix := Unit) (Name := ℕ) (U := UU) (Lvl := ℕ) (Val := Elt F) cfg0.spec c : sProp 𝕄) = scratch c := by
  unfold scratch
  simp only [held_whole]
  exact scopedRest0_eq c

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  have hw : (((c : Thread nD τ).loc main_arg1) ↦{fullShare} m ((c : Thread nD τ).loc main_arg1) : sProp 𝕄) ⊢ owns (c : Thread nD τ) wM fullShare (weightsIn m ρ c) :=
    Entails.of_eq (owns_whole (c : Thread nD τ) main_arg1 fullShare _).symm
  have ho : (((c : Thread nD τ).loc main_v1) ↦{fullShare} m ((c : Thread nD τ).loc main_v1) : sProp 𝕄) ⊢ held c outM := by
    rw [held_whole]
    iintro H
    iexists m ((c : Thread nD τ).loc main_v1)
    iexact H
  rw [Pipeline.unscopedRestP_none, show (Pipeline.unscopedRest cfg0.spec c (fun b => m ((c : Thread nD τ).loc b)) : sProp 𝕄) = _ from unscopedRest0_eq c _]
  iintro ⟨⟨Hw, Ho⟩, Hlev, Hcr, -, HG⟩
  ihave Hc := (credits (F := F) c) $$ Hcr
  imodintro
  unfold start
  isplitl
  · isplitl [HG]; · iexact HG
    isplitl [Hc]; · iexact Hc
    isplitl [Hlev]; · iexact Hlev
    isplitl [Hw]
    · iapply hw; iexact Hw
    · iapply ho; iexact Ho
  · iempintro

theorem phi_first (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs]; · iexact Hs
  iexact Hr

theorem phi_last (c : Dev nD) :
    (dats m ρ 0 c).Φ (Fin.last cfg0.N) ⊢ iprop(ends m ρ c ∗ Pipeline.ownSems0 osem c ∗ Pipeline.scopedRest cfg0.spec c) := by
  rw [show (dats m ρ 0 c).Φ (Fin.last cfg0.N) = Φ₁ m ρ c from rfl, scratch_eq, ownSems0_eq]
  exact .rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-- What a device's end says of the final state. -/
def endsAt (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)
    ∧ s.mem ((c : Thread nD τ).loc main_v1) = outF m ρ c

theorem ends_read (c : Dev nD) (s' : Phys nD τ sig (Elt F)) : iprop(ends m ρ c ∗ emp ∗ SI s') ⊢ |={Set.univ}=> iprop(⌜endsAt m ρ c s'.mem⌝ ∗ SI s') := by
  have hw : (owns (c : Thread nD τ) wM fullShare (weightsIn m ρ c) : sProp 𝕄) ⊢ ((c : Thread nD τ).loc main_arg1) ↦{fullShare} m ((c : Thread nD τ).loc main_arg1) :=
    Entails.of_eq (owns_whole (c : Thread nD τ) main_arg1 fullShare _)
  have ho : (owns (c : Thread nD τ) outM fullShare (outF m ρ c) : sProp 𝕄) ⊢ ((c : Thread nD τ).loc main_v1) ↦{fullShare} outF m ρ c :=
    Entails.of_eq (owns_whole (c : Thread nD τ) main_v1 fullShare _)
  unfold ends
  iintro ⟨⟨Hb, Hw, Ho⟩, -, HSI⟩
  ihave Hw := hw $$ Hw
  ihave Ho := ho $$ Ho
  ihave H := (persistent_entails_right (SI_pointsTo_agree (st := s') (ℓ := (c : Thread nD τ).loc main_arg1) (I := Finset.univ) (q := fullShare)
    (f := m ((c : Thread nD τ).loc main_arg1)))) $$ [HSI Hw]
  · isplitl [HSI] <;> iassumption
  icases H with ⟨%h1, HSI, -⟩
  ihave H := (persistent_entails_right (SI_pointsTo_agree (st := s') (ℓ := (c : Thread nD τ).loc main_v1) (I := Finset.univ) (q := fullShare)
    (f := outF m ρ c))) $$ [HSI Ho]
  · isplitl [HSI] <;> iassumption
  icases H with ⟨%h2, HSI, -⟩
  imod (Pipeline.unscopedSems0_read (X := semVal (barCell c) 0) (c := c) (by rw [← unscopedSems0_eq]; exact fupd_intro) s') $$ [Hb HSI] with ⟨%h0, HSI⟩
  · isplitl [Hb] <;> iassumption
  imodintro
  isplitr
  · ipureintro
    exact ⟨h0, funext fun i => h1 i (Finset.mem_univ i), funext fun i => h2 i (Finset.mem_univ i)⟩
  · iexact HSI

/-- What the claims read of a final state: the arguments unchanged, the result, every counter zero. -/
def Final (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_v1) = outF m ρ c)
  ∧ r.2.sem = fun _ => 0

set_option maxRecDepth 100000 in
/-- On the mesh of four devices, for any float values, from any memory with zero counters: every weakly fair execution of the
    program terminates, each device's result array holds `outF`, the arguments are unchanged and every counter is zero. -/
theorem run_main : θ_run defs (onTc (τ := τ) (main (F := F))) (s₀ m ρ) (Final m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave H := (own_pair_emb embR (initOf ringCells ringToks) (1 : Counters)) $$ HX
      icases H with ⟨HX, -⟩
      imod (fund_ring m ρ) $$ HX with HG
      imodintro
      isplitl [HP] <;> iassumption)
    (hglob := glob m ρ)
    (hA := fun _ _ => rfl) (hpf := fun _ k => k.elim0)
    (X := start m ρ) (Y := ends m ρ) (Z := fun _ => iprop(emp))
    (hX := start_intro m ρ) (hin := phi_first m ρ) (hout := phi_last m ρ)
    (QY := endsAt m ρ) (hY := ends_read m ρ)
    (hQ := fun _ h hs => ⟨fun c =>
      ⟨((h c).1 (0 : Fin 3)).trans ((dats m ρ 0 c).arrAt_in (0 : Fin 3) rfl _), (h c).2.2.2.1,
        ((h c).1 (1 : Fin 3)).trans ((dats m ρ 0 c).arrAt_in (1 : Fin 3) rfl _),
        ((h c).1 (2 : Fin 3)).trans ((dats m ρ 0 c).arrAt_in (2 : Fin 3) rfl _), (h c).2.2.2.2⟩,
      sem_eq_zero hs fun c => (h c).2.2.1⟩)

end Cert.RingMatmul

end
-- ==== Proof.Value.lean ====
/- The value: each device's result is its block of columns of the reference's. -/
module

public import proofs.«01_k».proof.Proof.Launch
public import proofs.«01_k».proof.Proof.Gen.ReferenceIdeal.Run
public import Idealize.ShloMosaic.Lib.Layout
public import Idealize.ShloMosaic.Lib.MatmulPlain
public import Idealize.ShloMosaic.Lib.StackMember

@[expose] public section

noncomputable section

namespace Cert.RingMatmul

open Idealize.ShloMosaic Idealize.ShloMosaic.TcCoe
open Idealize.ShloMosaic.ValueIdx (ix2 eq_ix2)

/-- An entry of the result: the row by the column, scaled, the negative ones at zero. -/
def entry (L R : Fin 4096 → EReal) (sx sw : EReal) : EReal := max ((∑ k, L k * R k) * (sx * sw)) (Ideal.ofBits .f32 0x00000000#32)

/-! ## The reference -/

section Reference

open Cert.ReferenceIdeal Cert.ReferenceIdeal.Gen

/-- The one index of a scale. -/
def only : S1.Idx := Shape.Idx.first (s := S1) (by decide)

theorem eq_only (a : S1.Idx) : a = only := by
  funext i
  fin_cases i
  exact Subsingleton.elim (α := Fin 1) _ _

/-- The reference's result, of whole arrays. -/
def refOut (x : S4096x4096.Idx → EReal) (w : S4096x8192.Idx → EReal) (sx sw : S1.Idx → EReal) : S4096x8192.Idx → EReal :=
  fun j => entry (fun k => x (ix2 (j 0) k)) (fun k => w (ix2 k (j 1))) (sx only) (sw only)

theorem reference_term (x : FVec Ideal S4096x4096 .f32) (w : FVec Ideal S4096x8192 .f32) (sx sw : FVec Ideal S1 .f32) :
    maximumf (mulf (Host.dotGeneral dot_S4096x4096_S4096x8192_S4096x8192_1_0_0_1_n_n none x w)
          (broadcastInDim S4096x8192 ![0, 1] bcast_S1x1_S4096x8192_0_1 (broadcastInDim S1x1 ![1] bcast_S1_S1x1_1 (mulf sx sw))))
        (broadcastInDim S4096x8192 ![] bcast_S_S4096x8192 (constant (F := Ideal) S_ .f32 0x00000000#32))
      = refOut x w sx sw := by
  funext j
  have hd : Host.dotGeneral dot_S4096x4096_S4096x8192_S4096x8192_1_0_0_1_n_n none x w j
      = ∑ k : Fin 4096, x (ix2 (j 0) k) * w (ix2 k (j 1)) := by
    conv_lhs => rw [eq_ix2 j]
    exact StackMember.dotGeneral_plain_apply (m := 4096) (k := 4096) (n := 8192) none x w (j 0) (j 1)
  unfold refOut entry
  rw [← hd]
  exact congrArg₂ (fun a b => max (_ * (sx a * sw b)) _) (eq_only _) (eq_only _)

end Reference

/-! ## The kernel -/

open Cert.KernelIdeal Cert.KernelIdeal.Gen

variable (m : (ℓ : Loc nD τ sig) → Buf (Elt Ideal) ℓ) (ρ : Dev nD → PrngReg)

theorem rowsIn_apply (c : Dev nD) (i : S1024x4096.Idx) : rowsIn m ρ c i = m ((c : Thread nD τ).loc main_arg0) i := by
  refine congrArg (m ((c : Thread nD τ).loc main_arg0)) (funext fun a => Fin.ext ?_)
  fin_cases a
  · show 0 * 1024 + 1 * (i 0).val = (i 0).val
    omega
  · show 0 * 4096 + 1 * (i 1).val = (i 1).val
    omega

theorem scaleX_only (c : Dev nD) : scaleX m ρ c only = m ((c : Thread nD τ).loc main_arg2) only :=
  congrArg (m ((c : Thread nD τ).loc main_arg2)) (eq_only _)

theorem scaleW_only (c : Dev nD) : scaleW m ρ c only = m ((c : Thread nD τ).loc main_arg3) only :=
  congrArg (m ((c : Thread nD τ).loc main_arg3)) (eq_only _)

theorem x8_apply (d : Dev nD) (q : Fin 4) (j : S256x4096.Idx) : x8 m ρ d q j = rowsIn m ρ d ((rX q).emb j) := by
  unfold x8 k0_pay2
  simp only [shapeCast_self]
  rfl

theorem prod_apply (c d : Dev nD) (q : Fin 4) (i : Fin 256) (j : Fin 2048) :
    prod m ρ c d q (ix2 i j)
      = entry (fun k => rowsIn m ρ d ((rX q).emb (ix2 i k))) (fun k => weightsIn m ρ c (ix2 k j)) (scaleX m ρ c only) (scaleW m ρ c only) := by
  have hd : FloatOps.matmul dot_S256x4096_S4096x2048_S256x2048_1_0_0_1_n_n none (φ₂ := .fp8e4m3) (x8 m ρ d q) (w8 m ρ c)
        (constant (F := Ideal) S256x2048 .f32 0x00000000#32) (ix2 i j)
      = ∑ k : Fin 4096, rowsIn m ρ d ((rX q).emb (ix2 i k)) * weightsIn m ρ c (ix2 k j) := by
    refine (Ideal.matmul_plain_apply (M := 256) (K := 4096) (N := 2048) none (φ₂ := .fp8e4m3) (x8 m ρ d q) (w8 m ρ c)
      (constant (F := Ideal) S256x2048 .f32 0x00000000#32) i j).trans ?_
    show Ideal.ofBits .f32 0x00000000#32 + _ = _
    rw [Ideal.ofBits_zero_f32, zero_add]
    exact Finset.sum_congr rfl fun k _ => congrArg (· * _) (x8_apply m ρ d q (ix2 i k))
  unfold entry
  rw [← hd]
  rfl

/-- Where the arguments are blocks of whole arrays, the result is the reference's block of columns. -/
theorem outF_eq (x : Cert.ReferenceIdeal.S4096x4096.Idx → EReal) (w : Cert.ReferenceIdeal.S4096x8192.Idx → EReal)
    (sx sw : Cert.ReferenceIdeal.S1.Idx → EReal)
    (h : ∀ c : Dev nD, m ((c : Thread nD τ).loc main_arg0) = Layout.block ⟨2, ![1024, 4096]⟩ ⟨2, ![4096, 4096]⟩ 0 4 c x
      ∧ m ((c : Thread nD τ).loc main_arg1) = Layout.block ⟨2, ![4096, 2048]⟩ ⟨2, ![4096, 8192]⟩ 1 4 c w
      ∧ m ((c : Thread nD τ).loc main_arg2) = sx ∧ m ((c : Thread nD τ).loc main_arg3) = sw) (c : Dev nD) :
    outF m ρ c = Layout.block ⟨2, ![4096, 2048]⟩ ⟨2, ![4096, 8192]⟩ 1 4 c (refOut x w sx sw) := by
  funext j
  obtain ⟨p, -, hp⟩ := Finset.mem_biUnion.mp ((rO_cover c).symm ▸ Finset.mem_univ j)
  obtain ⟨y, rfl⟩ : ∃ y, (rO c p).emb y = j := (rO c p).exists_idx_of_mem hp
  unfold outF
  rw [Rect.glue_emb (rO c) (rO_cover c) (rO_disjoint c), Layout.block_apply]
  refine (congrArg (prod m ρ c (rel c p.1) p.2) (eq_ix2 (n0 := 256) (n1 := 2048) y)).trans
    ((prod_apply m ρ c (rel c p.1) p.2 (y 0) (y 1)).trans ?_)
  rw [scaleX_only, scaleW_only, (h c).2.2.1, (h c).2.2.2]
  unfold refOut
  congr 1
  · funext k
    rw [rowsIn_apply, (h _).1, Layout.block_apply]
    refine congrArg x (funext fun a => Fin.ext ?_)
    fin_cases a
    · show (rel c p.1).val * 1024 + (256 * p.2.val + 1 * (y 0).val) = (1024 * (rel c p.1).val + 256 * p.2.val) + 1 * (y 0).val
      omega
    · show 0 + 1 * k.val = k.val
      omega
  · funext k
    show m ((c : Thread nD τ).loc main_arg1) _ = _
    rw [(h c).2.1, Layout.block_apply]
    refine congrArg w (funext fun a => Fin.ext ?_)
    fin_cases a
    · rfl
    · show c.val * 2048 + (y 1).val = c.val * 2048 + (0 + 1 * (y 1).val)
      omega

end Cert.RingMatmul

end
-- ==== Proof.lean ====
/- The claims of `Cert.Claim`: the three frames, the kernel's from its one run (Proof/Launch.lean), which is written at any
   float values and read here at both, and the value, each device's block of columns of the product (Proof/Value.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem
open Cert.RingMatmul (run_main outF_eq refOut reference_term)

local instance : Cert.Kernel.Facts := Cert.Kernel.Gen.facts
local instance : Cert.KernelIdeal.Facts := Cert.KernelIdeal.Gen.facts
local instance : Cert.ReferenceIdeal.Facts := Cert.ReferenceIdeal.Gen.facts

theorem frame_ideal : Cert.quiescent_KernelIdeal := fun m g _ =>
  (θ_run _ _ _).mono (fun _ h => ⟨fun c => ⟨(h.1 c).1, (h.1 c).2.1, (h.1 c).2.2.1, (h.1 c).2.2.2.1⟩, h.2⟩) (run_main m g)

/-- The two programs have one text: the same bodies, label by label, -/
theorem bodies_eq : Cert.Kernel.defs₀ (F := Bits) = Cert.KernelIdeal.defs₀ (F := Bits) := by
  unfold Cert.Kernel.defs₀ Cert.KernelIdeal.defs₀
  refine congrArg Defs.onTc ?_
  funext l p
  match l, p with
  | 0, (t, s) => rfl

/-- and so the same body table. -/
theorem defs_eq : Cert.Kernel.defs (F := Bits) = Cert.KernelIdeal.defs (F := Bits) :=
  congrArg (Pipeline.defs (Cert.KernelIdeal.pcfgs (F := Bits))) bodies_eq

/-- The run at the bits is then the same run. -/
theorem frame_bits : Cert.quiescent_Kernel := by
  intro m g _
  rw [defs_eq]
  exact (θ_run Cert.KernelIdeal.defs _ _).mono
    (fun _ h => ⟨fun c => ⟨(h.1 c).1, (h.1 c).2.1, (h.1 c).2.2.1, (h.1 c).2.2.2.1⟩, h.2⟩) (run_main (F := Bits) m g)

theorem frame_reference : Cert.quiescent_ReferenceIdeal := fun m g _ =>
  (θ_run _ _ _).mono (fun r h => ⟨fun c => (h c).2, sem_eq_zero_of_no_sems (by decide) r.2⟩) (Cert.ReferenceIdeal.Value.run m g)

theorem value : Cert.algebraic_KernelIdeal_ReferenceIdeal := by
  intro m g m' g' _ hm
  refine ⟨refOut _ _ _ _, (θ_run _ _ _).mono (fun r h c => ?_) (run_main m g),
    (θ_run _ _ _).mono (fun r h => ⟨(h 0).1.trans (reference_term _ _ _ _), (h 0).2⟩) (Cert.ReferenceIdeal.Value.run m' g')⟩
  obtain ⟨h0, h1, h2, h3, hv⟩ := h.1 c
  exact ⟨hv.trans (outF_eq m g _ _ _ _ hm c), h0, h1, h2, h3⟩

theorem claim : Cert.Claim :=
  ⟨Cert.Kernel.Gen.facts, Cert.KernelIdeal.Gen.facts, Cert.ReferenceIdeal.Gen.facts,
    frame_bits, frame_ideal, frame_reference, trivial, value⟩

end Cert.Proof

end
